-- ==== Defs.lean ====
def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_rows_in_range [hPre_rows_in_range : Cert.Pre_rows_in_range.Facts] (m : (ℓ : Loc Cert.HeadIdeal.nD Cert.HeadIdeal.τ Cert.HeadIdeal.sig) → Buf (Elt Ideal) ℓ) : Prop :=
  ∀ c : Dev Cert.HeadIdeal.nD,
    (Cert.Pre_rows_in_range.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ r.2.sem = fun _ => 0)

def quiescent_HeadIdeal_pre_rows_in_range [hHeadIdeal : Cert.HeadIdeal.Facts] [hPre_rows_in_range : Cert.Pre_rows_in_range.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_rows_in_range m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_rows_in_range [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Head_HeadIdeal : Prop :=
  True

def algebraic_HeadIdeal_ReferenceIdeal_pre_rows_in_range [hHeadIdeal : Cert.HeadIdeal.Facts] [hReferenceIdeal : Cert.ReferenceIdeal.Facts] [hPre_rows_in_range : Cert.Pre_rows_in_range.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_HeadIdeal_rows_in_range m →
    (∀ c : Dev Cert.HeadIdeal.nD,
      m' ((c.tc : Thread Cert.ReferenceIdeal.nD Cert.ReferenceIdeal.τ).loc Cert.ReferenceIdeal.main_arg0) = m ((c.tc : Thread Cert.HeadIdeal.nD Cert.HeadIdeal.τ).loc Cert.HeadIdeal.main_arg0)
      ∧ m' ((c.tc : Thread Cert.ReferenceIdeal.nD Cert.ReferenceIdeal.τ).loc Cert.ReferenceIdeal.main_arg1) = m ((c.tc : Thread Cert.HeadIdeal.nD Cert.HeadIdeal.τ).loc Cert.HeadIdeal.main_arg1)
      ∧ m' ((c.tc : Thread Cert.ReferenceIdeal.nD Cert.ReferenceIdeal.τ).loc Cert.ReferenceIdeal.main_arg2) = m ((c.tc : Thread Cert.HeadIdeal.nD Cert.HeadIdeal.τ).loc Cert.HeadIdeal.main_arg2)
      ∧ m' ((c.tc : Thread Cert.ReferenceIdeal.nD Cert.ReferenceIdeal.τ).loc Cert.ReferenceIdeal.main_arg3) = m ((c.tc : Thread Cert.HeadIdeal.nD Cert.HeadIdeal.τ).loc Cert.HeadIdeal.main_arg3)
      ∧ m' ((c.tc : Thread Cert.ReferenceIdeal.nD Cert.ReferenceIdeal.τ).loc Cert.ReferenceIdeal.main_arg4) = m ((c.tc : Thread Cert.HeadIdeal.nD Cert.HeadIdeal.τ).loc Cert.HeadIdeal.main_arg4)) →
    ∃ (v0 : (c : Dev Cert.HeadIdeal.nD) → Buf (Elt Ideal) ((c.tc : Thread Cert.HeadIdeal.nD Cert.HeadIdeal.τ).loc Cert.HeadIdeal.main_v3_0)) (v1 : (c : Dev Cert.HeadIdeal.nD) → Buf (Elt Ideal) ((c.tc : Thread Cert.HeadIdeal.nD Cert.HeadIdeal.τ).loc Cert.HeadIdeal.main_v3_1)) (v2 : (c : Dev Cert.HeadIdeal.nD) → Buf (Elt Ideal) ((c.tc : Thread Cert.HeadIdeal.nD Cert.HeadIdeal.τ).loc Cert.HeadIdeal.main_v3_2)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v3_0) = v0 c
          ∧ r.2.mem ((c.tc : Thread Cert.HeadIdeal.nD Cert.HeadIdeal.τ).loc Cert.HeadIdeal.main_v3_1) = v1 c
          ∧ r.2.mem ((c.tc : Thread Cert.HeadIdeal.nD Cert.HeadIdeal.τ).loc Cert.HeadIdeal.main_v3_2) = v2 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hHead : Cert.Head.Facts) (hHeadIdeal : Cert.HeadIdeal.Facts) (hReferenceIdeal : Cert.ReferenceIdeal.Facts) (hPre_rows_in_range : Cert.Pre_rows_in_range.Facts),
    quiescent_Head (hHead := hHead)
    ∧ quiescent_HeadIdeal (hHeadIdeal := hHeadIdeal)
    ∧ quiescent_HeadIdeal_pre_rows_in_range (hHeadIdeal := hHeadIdeal) (hPre_rows_in_range := hPre_rows_in_range)
    ∧ quiescent_ReferenceIdeal (hReferenceIdeal := hReferenceIdeal)
    ∧ quiescent_ReferenceIdeal_pre_rows_in_range (hReferenceIdeal := hReferenceIdeal) (hPre_rows_in_range := hPre_rows_in_range)
    ∧ preserves_Head_HeadIdeal
    ∧ algebraic_HeadIdeal_ReferenceIdeal_pre_rows_in_range (hHeadIdeal := hHeadIdeal) (hReferenceIdeal := hReferenceIdeal) (hPre_rows_in_range := hPre_rows_in_range)
-- ==== Pre_rows_in_range.lean ====
abbrev S512x1x5120 : Shape := ⟨3, ![512, 1, 5120]⟩
abbrev S5120x32000 : Shape := ⟨2, ![5120, 32000]⟩
abbrev S32000 : Shape := ⟨1, ![32000]⟩
abbrev S512x32000 : Shape := ⟨2, ![512, 32000]⟩
abbrev S512 : Shape := ⟨1, ![512]⟩
abbrev S_ : Shape := ⟨0, ![]⟩
abbrev S512x1 : Shape := ⟨2, ![512, 1]⟩

class Facts : Prop where
  bitsLt_bf16_f32 : FTy.bits .bf16 < FTy.bits .f32
  reducesTo_S512x1x5120_S512x1_d2 : S512x1x5120.ReducesTo [2] S512x1
  h_S_ : 0 < S_.numel
  bcast_S_S512x1 : S_.BroadcastsInDim S512x1 (![] : Fin 0 → Fin S512x1.rank)

variable [Facts]

def fn {F : FTy → Type} [FloatOps F] (main_arg0 : FVec F S512x1x5120 .bf16) (main_arg1 : FVec F S5120x32000 .fp8e4m3) (main_arg2 : FVec F S32000 .f32) (main_arg3 : FVec F S512x32000 .fp8e4m3) (main_arg4 : FVec F S512 .f32) : IVec S512x1 1 :=
  let main_v0 : FVec F S512x1x5120 .f32 := (extf .f32 · bitsLt_bf16_f32) main_arg0
  let main_v1 : FVec F S512x1x5120 .f32 := Host.absf main_v0
  let main_cst : FVec F S_ .f32 := constant S_ .f32 0xFF800000#32
  let main_v2 : FVec F S512x1 .f32 := (fun x v => Host.reduce FloatOps.maximumf x v reducesTo_S512x1x5120_S512x1_d2 h_S_) main_v1 main_cst
  let main_cst_0 : FVec F S_ .f32 := constant S_ .f32 0x3B124925#32
  let main_v3 : FVec F S512x1 .f32 := broadcastInDim S512x1 ![] bcast_S_S512x1 main_cst_0
  let main_v4 : FVec F S512x1 .f32 := mulf main_v2 main_v3
  let main_cst_1 : FVec F S_ .f32 := constant S_ .f32 0x00000000#32
  let main_v5 : FVec F S512x1 .f32 := broadcastInDim S512x1 ![] bcast_S_S512x1 main_cst_1
  let main_v6 : IVec S512x1 1 := cmpf .oeq main_v4 main_v5
  let main_cst_2 : FVec F S_ .f32 := constant S_ .f32 0x00400000#32
  let main_v7 : FVec F S512x1 .f32 := broadcastInDim S512x1 ![] bcast_S_S512x1 main_cst_2
  let main_v8 : IVec S512x1 1 := cmpf .oge main_v4 main_v7
  let main_cst_3 : FVec F S_ .f32 := constant S_ .f32 0x7E800000#32
  let main_v9 : FVec F S512x1 .f32 := broadcastInDim S512x1 ![] bcast_S_S512x1 main_cst_3
  let main_v10 : IVec S512x1 1 := cmpf .olt main_v4 main_v9
  let main_v11 : IVec S512x1 1 := andi main_v8 main_v10
  let main_v12 : IVec S512x1 1 := ori main_v6 main_v11
  main_v12
-- ==== Head.lean ====
abbrev S512x1x5120 : Shape := ⟨3, ![512, 1, 5120]⟩
abbrev S5120x32000 : Shape := ⟨2, ![5120, 32000]⟩
abbrev S32000 : Shape := ⟨1, ![32000]⟩
abbrev S512x32000 : Shape := ⟨2, ![512, 32000]⟩
abbrev S512 : Shape := ⟨1, ![512]⟩
abbrev S512x5120 : Shape := ⟨2, ![512, 5120]⟩
abbrev S512x1 : Shape := ⟨2, ![512, 1]⟩
abbrev S1x32000 : Shape := ⟨2, ![1, 32000]⟩
abbrev S512x128 : Shape := ⟨2, ![512, 128]⟩
abbrev S5120x1280 : Shape := ⟨2, ![5120, 1280]⟩
abbrev S1x1280 : Shape := ⟨2, ![1, 1280]⟩
abbrev S512x1280 : Shape := ⟨2, ![512, 1280]⟩
abbrev S2x512x256 : Shape := ⟨3, ![2, 512, 256]⟩
abbrev S32x5120 : Shape := ⟨2, ![32, 5120]⟩
abbrev S32 : Shape := ⟨1, ![32]⟩
abbrev S32x1 : Shape := ⟨2, ![32, 1]⟩
abbrev S32x256 : Shape := ⟨2, ![32, 256]⟩
abbrev S32x128 : Shape := ⟨2, ![32, 128]⟩
abbrev S5120x256 : Shape := ⟨2, ![5120, 256]⟩
abbrev S512x256 : Shape := ⟨2, ![512, 256]⟩
abbrev S1x512x256 : Shape := ⟨3, ![1, 512, 256]⟩
abbrev S1x128 : Shape := ⟨2, ![1, 128]⟩

abbrev nBuf : Space → Nat
  | .hbm => 15
  | .vmem => 19
  | .smem => 0
  | _ => 0

abbrev bufTy : (tb : Table) → Fin (tcTables nBuf tb) → BufTy
  | .hbm, ⟨0, _⟩ => ⟨S512x1x5120, .bf16⟩
  | .hbm, ⟨1, _⟩ => ⟨S5120x32000, .fp8e4m3⟩
  | .hbm, ⟨2, _⟩ => ⟨S32000, .f32⟩
  | .hbm, ⟨3, _⟩ => ⟨S512x32000, .fp8e4m3⟩
  | .hbm, ⟨4, _⟩ => ⟨S512, .f32⟩
  | .hbm, ⟨5, _⟩ => ⟨S512x5120, .bf16⟩
  | .hbm, ⟨6, _⟩ => ⟨S512x1, .f32⟩
  | .hbm, ⟨7, _⟩ => ⟨S1x32000, .f32⟩
  | .hbm, ⟨8, _⟩ => ⟨S512x32000, .f32⟩
  | .hbm, ⟨9, _⟩ => ⟨S512x5120, .fp8e4m3⟩
  | .hbm, ⟨10, _⟩ => ⟨S512x1, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S512x128, .f32⟩
  | .local _ .vmem, ⟨0, _⟩ => ⟨S512x5120, .bf16⟩
  | .local _ .vmem, ⟨1, _⟩ => ⟨S512x1, .f32⟩
  | .local _ .vmem, ⟨2, _⟩ => ⟨S5120x1280, .fp8e4m3⟩
  | .local _ .vmem, ⟨3, _⟩ => ⟨S5120x1280, .fp8e4m3⟩
  | .local _ .vmem, ⟨4, _⟩ => ⟨S1x1280, .f32⟩
  | .local _ .vmem, ⟨5, _⟩ => ⟨S1x1280, .f32⟩
  | .local _ .vmem, ⟨6, _⟩ => ⟨S512x1280, .fp8e4m3⟩
  | .local _ .vmem, ⟨7, _⟩ => ⟨S512x1280, .fp8e4m3⟩
  | .local _ .vmem, ⟨8, _⟩ => ⟨S512x1280, .f32⟩
  | .local _ .vmem, ⟨9, _⟩ => ⟨S512x1280, .f32⟩
  | .local _ .vmem, ⟨10, _⟩ => ⟨S512x5120, .fp8e4m3⟩
  | .local _ .vmem, ⟨11, _⟩ => ⟨S512x1, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S2x512x256, .f32⟩
  | .local _ .vmem, ⟨17, _⟩ => ⟨S512x128, .f32⟩
  | .local _ .vmem, ⟨18, _⟩ => ⟨S512x128, .f32⟩
  | _, _ => ⟨S512x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev main_v3_6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_3376 : BitVec 32 := 0#32
  let c16_i32 : BitVec 32 := 16#32
  let v4838 : BitVec 32 := Scalar.addi c0_i32_3376 c16_i32
  let c1_i32_3377 : BitVec 32 := 1#32
  ⟨c0_i32_3376, v4838, c1_i32_3377⟩
def k0_mult1 (k0_t1 : Fin k0_t1_loop.trips) : BitVec 32 :=
  let c0_i32_3376 : BitVec 32 := 0#32
  let c1_i32_3377 : BitVec 32 := 1#32
  let arg16 : BitVec 32 := Scf.iv c0_i32_3376 c1_i32_3377 k0_t1
  let c32_i32 : BitVec 32 := 32#32
  let v4856 : BitVec 32 := Scalar.muli arg16 c32_i32
  v4856
def k0_off1 (k0_t1 : Fin k0_t1_loop.trips) : Fin 2 → Nat :=
  let c0_i32_3376 : BitVec 32 := 0#32
  let c1_i32_3377 : BitVec 32 := 1#32
  let arg16 : BitVec 32 := Scf.iv c0_i32_3376 c1_i32_3377 k0_t1
  let c32_i32 : BitVec 32 := 32#32
  let v4856 : BitVec 32 := Scalar.muli arg16 c32_i32
  let v4857 : BitVec 32 := v4856
  let v4858 : Index := Scalar.indexCast v4857
  let c0_3396 : Index := 0#32
  ![v4858.toNat, 0]
def k0_off2 (k0_t1 : Fin k0_t1_loop.trips) : Fin 2 → Nat :=
  let c0_i32_3376 : BitVec 32 := 0#32
  let c1_i32_3377 : BitVec 32 := 1#32
  let arg16 : BitVec 32 := Scf.iv c0_i32_3376 c1_i32_3377 k0_t1
  let c32_i32 : BitVec 32 := 32#32
  let v4856 : BitVec 32 := Scalar.muli arg16 c32_i32
  let v4857 : BitVec 32 := v4856
  let v4906 : Index := Scalar.indexCast v4857
  let c0_3412 : Index := 0#32
  ![v4906.toNat, 0]
def k0_off3 (k0_t1 : Fin k0_t1_loop.trips) : Fin 2 → Nat :=
  let c0_i32_3376 : BitVec 32 := 0#32
  let c1_i32_3377 : BitVec 32 := 1#32
  let arg16 : BitVec 32 := Scf.iv c0_i32_3376 c1_i32_3377 k0_t1
  let c32_i32 : BitVec 32 := 32#32
  let v4856 : BitVec 32 := Scalar.muli arg16 c32_i32
  let v4857 : BitVec 32 := v4856
  let v4912 : Index := Scalar.indexCast v4857
  let c0_3414 : Index := 0#32
  ![v4912.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5120x1280 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1280 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S512x1x5120 : Shape := ⟨3, ![512, 1, 5120]⟩
abbrev S5120x32000 : Shape := ⟨2, ![5120, 32000]⟩
abbrev S32000 : Shape := ⟨1, ![32000]⟩
abbrev S512x32000 : Shape := ⟨2, ![512, 32000]⟩
abbrev S512 : Shape := ⟨1, ![512]⟩
abbrev S512x5120 : Shape := ⟨2, ![512, 5120]⟩
abbrev S1x32000 : Shape := ⟨2, ![1, 32000]⟩
abbrev S512x1 : Shape := ⟨2, ![512, 1]⟩

abbrev nBuf : Space → Nat
  | .hbm => 10
  | .vmem => 6
  | .smem => 0
  | _ => 0

abbrev bufTy : (tb : Table) → Fin (tcTables nBuf tb) → BufTy
  | .hbm, ⟨0, _⟩ => ⟨S512x1x5120, .bf16⟩
  | .hbm, ⟨1, _⟩ => ⟨S5120x32000, .fp8e4m3⟩
  | .hbm, ⟨2, _⟩ => ⟨S32000, .f32⟩
  | .hbm, ⟨3, _⟩ => ⟨S512x32000, .fp8e4m3⟩
  | .hbm, ⟨4, _⟩ => ⟨S512, .f32⟩
  | .hbm, ⟨5, _⟩ => ⟨S512x5120, .bf16⟩
  | .hbm, ⟨6, _⟩ => ⟨S1x32000, .f32⟩
  | .hbm, ⟨7, _⟩ => ⟨S512x32000, .f32⟩
  | .hbm, ⟨8, _⟩ => ⟨S512x5120, .fp8e4m3⟩
  | .hbm, ⟨9, _⟩ => ⟨S512x1, .f32⟩
  | .local _ .vmem, ⟨0, _⟩ => ⟨S512x5120, .bf16⟩
  | .local _ .vmem, ⟨1, _⟩ => ⟨S5120x32000, .fp8e4m3⟩
  | .local _ .vmem, ⟨2, _⟩ => ⟨S1x32000, .f32⟩
  | .local _ .vmem, ⟨3, _⟩ => ⟨S512x32000, .f32⟩
  | .local _ .vmem, ⟨4, _⟩ => ⟨S512x5120, .fp8e4m3⟩
  | .local _ .vmem, ⟨5, _⟩ => ⟨S512x1, .f32⟩
  | _, _ => ⟨S512x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S512x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x32000 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x32000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.PrintedBodyPoints.lean ====
/- (The program as printed.) What the two cases of the kernel body are stated over: when the body's one branch is taken, where the windows are
   live, the staging and scratch buffers as memrefs, and the pipeline's scratch invariant spelled with them. -/
module

public import proofs.«01_k».proof.Proof.Gen.Head.Frame
public import proofs.«01_k».proof.Proof.Gen.Head.Loops

@[expose] public section

-- membership in a rectangle of production extents (`View.cover_of_tiled`): the elaborator's structural look
-- recurses once per coordinate of the long axes
set_option maxRecDepth 16384

noncomputable section

namespace Cert.Head.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [cond0_0, k0_cond1, e0]
    word_cmp
   : ∀ t : Fin grid0.N, cond0_0 (grid0.coords t) ↔ t.val % 25 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5120x1280 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1280 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1280 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1280 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x5120 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x128 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S2x512x256 .f32 := Memref.whole cc0_scratch0
abbrev scM0_1 : Memref sig .tc .vmem S512x128 .f32 := Memref.whole cc0_scratch1
abbrev scM0_2 : Memref sig .tc .vmem S512x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Head.Gen

end
-- ==== Proof.PrintedQuantise.lean ====
/- (The program as printed.) The quantising loop of the first point: 16 trips of 32 rows each write the codes, the scales and the scales times a
   constant. Here: what the three buffers hold after the loop, as functions of the whole input. -/
module

public import proofs.«01_k».proof.Proof.PrintedBodyPoints
public import Idealize.ShloMosaic.Lib.Pipeline.ValueKit
public import Idealize.ShloMosaic.Lib.Pipeline.ReadBack
public import Idealize.ShloMosaic.Lib.Pointwise.Index
public import Idealize.ShloMosaic.Lib.WritesUnit

@[expose] public section

set_option maxRecDepth 16384

noncomputable section

namespace Cert.Head.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The 32 rows of chunk `k` of the input. -/
def chunk (x : Vec F S512x5120 .bf16) (k : Fin 16) : Vec F S32x5120 .bf16 :=
  fun y => x (ix2 ⟨32 * k.val + (y 0).val, by have := (y 0).isLt; have : (y 0).val < 32 := this; omega⟩ (y 1))

/-- The chunk a row of the input lies in. -/
def rowChunk (r : Fin 512) : Fin 16 := ⟨r.val / 32, by omega⟩

/-- A row's place in its chunk. -/
def rowIn (r : Fin 512) : Fin 32 := ⟨r.val % 32, Nat.mod_lt _ (by decide)⟩

/-- The codes of the input: each row is quantised with its chunk. -/
def codes (x : Vec F S512x5120 .bf16) : Vec F S512x5120 .fp8e4m3 :=
  fun y => k0_pay6 (chunk x (rowChunk (y 0))) (ix2 (rowIn (y 0)) (y 1))

/-- The scales of the input, one per row. -/
def scales (x : Vec F S512x5120 .bf16) : Vec F S512x1 .f32 :=
  fun y => k0_pay7 (F := F) (k0_pay5 (chunk x (rowChunk (y 0)))) (ix2 (rowIn (y 0)) (y 1))

/-- The scales times the constant of the logits, repeated along 128 lanes. -/
def rowFactors (x : Vec F S512x5120 .bf16) : Vec F S512x128 .f32 :=
  fun y => k0_pay8 (F := F) (k0_pay5 (chunk x (rowChunk (y 0)))) (ix2 (rowIn (y 0)) (y 1))

/-- The load of trip `k` reads chunk `k`. -/
theorem load_chunk {arg1 : Memref sig .tc .vmem S512x5120 .bf16} (X : BufTy.Contents (Elt F) arg1.view.ty) (k : Fin 16)
    (off : Fin 2 → ℕ) (hoff : off = ![32 * k.val, 0]) (inb : ∀ a : Fin 2, off a + S32x5120.size a ≤ S512x5120.size a) :
    (View.readAt (Elt F) arg1.view (Rect.unit (s := S512x5120) off S32x5120.size inb).toLoadRect X : Vec F S32x5120 .bf16)
      = chunk (arg1.view.read (Elt F) X) k := by
  subst hoff
  funext y
  rw [View.readAt_eq_ld, View.ld_apply]
  unfold chunk
  congr 1
  funext a
  fin_cases a <;> apply Fin.ext <;> simp [Rect.idx_unit_val, ix2]

/-- One trip more: if the rows before trip `k` read as `T` and the trip writes the rows of `T` it covers, then the rows
    before trip `k + 1` read as `T`. -/
theorem rows_step {W : ℕ} {e : EltTy} {arg : Memref sig .tc .vmem (⟨2, ![512, W]⟩ : Shape) e}
    (f : BufTy.Contents (Elt F) arg.view.ty) (T : Vec F (⟨2, ![512, W]⟩ : Shape) e) (k : Fin 16)
    (off : Fin 2 → ℕ) (hoff : off = ![32 * k.val, 0])
    (inb : ∀ a : Fin 2, off a + (![32, W] : Fin 2 → ℕ) a ≤ (![512, W] : Fin 2 → ℕ) a)
    (w : Vec F (⟨2, ![32, W]⟩ : Shape) e)
    (hw : ∀ y : (⟨2, ![512, W]⟩ : Shape).Idx, rowChunk (y 0) = k → w (ix2 (rowIn (y 0)) (y 1)) = T y)
    (hT : ∀ y : (⟨2, ![512, W]⟩ : Shape).Idx, (y 0).val < 32 * k.val → arg.view.read (Elt F) f y = T y)
    (y : (⟨2, ![512, W]⟩ : Shape).Idx) (hy : (y 0).val < 32 * (k.val + 1)) :
    arg.view.read (Elt F) (arg.view.writes (Elt F) f
      [⟨Rect.unit (s := ⟨2, ![512, W]⟩) off ![32, W] inb, w⟩]) y = T y := by
  by_cases h : (y 0).val < 32 * k.val
  · rw [View.read_writes_cons_rows_of_not_mem _ _ inb w [] y hoff rfl (Or.inl h), View.writes_nil]
    exact hT y h
  · have hk : rowChunk (y 0) = k := Fin.ext (by show (y 0).val / 32 = k.val; omega)
    rw [View.read_writes_cons_rows_of_mem _ _ inb w [] y (ix2 (rowIn (y 0)) (y 1)) hoff
      (by show (y 0).val = 32 * k.val + (y 0).val % 32; omega) rfl]
    exact hw y hk

/-- Where trip `k` reads and writes: from row `32 k`. -/
theorem off1_eq : ∀ k : Fin k0_t1_loop.trips, k0_off1 k = ![32 * k.val, 0] := by decide +kernel

theorem off2_eq : ∀ k : Fin k0_t1_loop.trips, k0_off2 k = ![32 * k.val, 0] := by decide +kernel

theorem off3_eq : ∀ k : Fin k0_t1_loop.trips, k0_off3 k = ![32 * k.val, 0] := by decide +kernel

/-- The loop's trips count the chunks. -/
theorem trips_le : k0_t1_loop.trips ≤ 16 := k0_t1_abs.2.1

set_option warn.classDefReducibility false in
/-- The loop's invariant before trip `k`: the rows of the chunks before it are done. -/
@[sl_loop] def loopRows (𝒱 : Variants) (c : Dev nD) (bd : Option 𝒱.V) (E : Set ℕ) (i : grid0.Coords) (arg1 : Memref sig .tc .vmem S512x5120 .bf16) (harg1 : arg1.IsWhole) (arg2 : Memref sig .tc .vmem S512x1 .f32) (harg2 : arg2.IsWhole) (arg3 : Memref sig .tc .vmem S5120x1280 .fp8e4m3) (harg3 : arg3.IsWhole) (arg4 : Memref sig .tc .vmem S1x1280 .f32) (harg4 : arg4.IsWhole) (arg5 : Memref sig .tc .vmem S512x1280 .fp8e4m3) (harg5 : arg5.IsWhole) (arg6 : Memref sig .tc .vmem S512x1280 .f32) (harg6 : arg6.IsWhole) (arg7 : Memref sig .tc .vmem S512x5120 .fp8e4m3) (harg7 : arg7.IsWhole) (arg8 : Memref sig .tc .vmem S512x1 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S2x512x256 .f32) (harg13 : arg13.IsWhole) (arg14 : Memref sig .tc .vmem S512x128 .f32) (harg14 : arg14.IsWhole) (arg15 : Memref sig .tc .vmem S512x128 .f32) (harg15 : arg15.IsWhole) (k0_h1 : k0_cond1 i = 1#1) (X_arg1 : BufTy.Contents (Elt F) arg1.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h1 where
  inv k _ := iprop((arg1.view.loc (c : Thread nD τ) ↦[arg1.view.set]{fullShare} X_arg1)
    ∗ (∃ f, (arg7.view.loc (c : Thread nD τ) ↦[arg7.view.set]{fullShare} f)
        ∗ ⌜∀ y : S512x5120.Idx, (y 0).val < 32 * k → arg7.view.read (Elt F) f y = codes (arg1.view.read (Elt F) X_arg1) y⌝)
    ∗ (∃ f, (arg8.view.loc (c : Thread nD τ) ↦[arg8.view.set]{fullShare} f)
        ∗ ⌜∀ y : S512x1.Idx, (y 0).val < 32 * k → arg8.view.read (Elt F) f y = scales (arg1.view.read (Elt F) X_arg1) y⌝)
    ∗ (∃ f, (arg14.view.loc (c : Thread nD τ) ↦[arg14.view.set]{fullShare} f)
        ∗ ⌜∀ y : S512x128.Idx, (y 0).val < 32 * k → arg14.view.read (Elt F) f y = rowFactors (arg1.view.read (Elt F) X_arg1) y⌝))
  step k acc := by
    have hk : k.val < 16 := Nat.lt_of_lt_of_le k.isLt trips_le
    unfold k0_t1_body
    iintro ⟨H1, ⟨%f7, H7, %h7⟩, ⟨%f8, H8, %h8⟩, ⟨%f14, H14, %h14⟩⟩
    sl_exec
    sl_step
    isplitl [H1]; · iexact H1
    isplitl [H7]
    · iexists _; isplitl [H7]; · iexact H7
      ipureintro
      refine rows_step (arg := arg7) f7 _ ⟨k.val, hk⟩ _ (off1_eq k) _ _ ?_ h7
      intro y hy
      sl_unfold_run_names
      rw [load_chunk X_arg1 ⟨k.val, hk⟩ _ (off1_eq k)]
      unfold codes; rw [hy]
    isplitl [H8]
    · iexists _; isplitl [H8]; · iexact H8
      ipureintro
      refine rows_step (arg := arg8) f8 _ ⟨k.val, hk⟩ _ (off2_eq k) _ _ ?_ h8
      intro y hy
      sl_unfold_run_names
      rw [load_chunk X_arg1 ⟨k.val, hk⟩ _ (off1_eq k)]
      unfold scales; rw [hy]
    iexists _; isplitl [H14]; · iexact H14
    ipureintro
    refine rows_step (arg := arg14) f14 _ ⟨k.val, hk⟩ _ (off3_eq k) _ _ ?_ h14
    intro y hy
    sl_unfold_run_names
    rw [load_chunk X_arg1 ⟨k.val, hk⟩ _ (off1_eq k)]
    unfold rowFactors; rw [hy]

/-- After the loop the three buffers hold the codes, the scales and the row factors. -/
instance loopRowsExit (𝒱 : Variants) (c : Dev nD) (bd : Option 𝒱.V) (E : Set ℕ) (i : grid0.Coords) (arg1 : Memref sig .tc .vmem S512x5120 .bf16) (harg1 : arg1.IsWhole) (arg2 : Memref sig .tc .vmem S512x1 .f32) (harg2 : arg2.IsWhole) (arg3 : Memref sig .tc .vmem S5120x1280 .fp8e4m3) (harg3 : arg3.IsWhole) (arg4 : Memref sig .tc .vmem S1x1280 .f32) (harg4 : arg4.IsWhole) (arg5 : Memref sig .tc .vmem S512x1280 .fp8e4m3) (harg5 : arg5.IsWhole) (arg6 : Memref sig .tc .vmem S512x1280 .f32) (harg6 : arg6.IsWhole) (arg7 : Memref sig .tc .vmem S512x5120 .fp8e4m3) (harg7 : arg7.IsWhole) (arg8 : Memref sig .tc .vmem S512x1 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S2x512x256 .f32) (harg13 : arg13.IsWhole) (arg14 : Memref sig .tc .vmem S512x128 .f32) (harg14 : arg14.IsWhole) (arg15 : Memref sig .tc .vmem S512x128 .f32) (harg15 : arg15.IsWhole) (k0_h1 : k0_cond1 i = 1#1) (X_arg1 : BufTy.Contents (Elt F) arg1.view.ty) :
    LoopExit (loopRows (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h1 X_arg1) where
  post _ := iprop((arg1.view.loc (c : Thread nD τ) ↦[arg1.view.set]{fullShare} X_arg1)
    ∗ (arg7.view.loc (c : Thread nD τ) ↦[arg7.view.set]{fullShare} harg7.unread (codes (arg1.view.read (Elt F) X_arg1)))
    ∗ (arg8.view.loc (c : Thread nD τ) ↦[arg8.view.set]{fullShare} harg8.unread (scales (arg1.view.read (Elt F) X_arg1)))
    ∗ (arg14.view.loc (c : Thread nD τ) ↦[arg14.view.set]{fullShare} harg14.unread (rowFactors (arg1.view.read (Elt F) X_arg1))))
  exit acc := by
    have htr : 512 ≤ 32 * Scf.trips k0_t1_loop.lb k0_t1_loop.ub k0_t1_loop.st := by decide
    unfold loopRows
    dsimp only
    iintro ⟨H1, ⟨%f7, H7, %h7⟩, ⟨%f8, H8, %h8⟩, ⟨%f14, H14, %h14⟩⟩
    obtain rfl := harg7.eq_unread (funext fun y => h7 y (lt_of_lt_of_le (y 0).isLt htr))
    obtain rfl := harg8.eq_unread (funext fun y => h8 y (lt_of_lt_of_le (y 0).isLt htr))
    obtain rfl := harg14.eq_unread (funext fun y => h14 y (lt_of_lt_of_le (y 0).isLt htr))
    isplitl [H1]; · iexact H1
    isplitl [H7]; · iexact H7
    isplitl [H8]; · iexact H8
    iexact H14

end Cert.Head.Gen

end
-- ==== Proof.PrintedRunFirst.lean ====
/- (The program as printed.) The body of the kernel at the first point (the branch taken): it quantises the input, starts the statistics and then
   does what every point does. -/
module

public import proofs.«01_k».proof.Proof.PrintedQuantise

@[expose] public section

-- membership in a rectangle of production extents (`View.cover_of_tiled`): the elaborator's structural look
-- recurses once per coordinate of the long axes
set_option maxRecDepth 16384

noncomputable section

namespace Cert.Head.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 10392000 in set_option sl_exec.squeezeSlice true in
/-- The body where its branch is taken: the codes, the scales and the row factors come from the input alone; the logits
    block and the four statistics end with the stores found here. -/
def runFirst (c : Dev nD) (i : grid0.Coords) (arg1 : Memref sig .tc .vmem S512x5120 .bf16) (harg1 : arg1.IsWhole) (arg2 : Memref sig .tc .vmem S512x1 .f32) (harg2 : arg2.IsWhole) (arg3 : Memref sig .tc .vmem S5120x1280 .fp8e4m3) (harg3 : arg3.IsWhole) (arg4 : Memref sig .tc .vmem S1x1280 .f32) (harg4 : arg4.IsWhole) (arg5 : Memref sig .tc .vmem S512x1280 .fp8e4m3) (harg5 : arg5.IsWhole) (arg6 : Memref sig .tc .vmem S512x1280 .f32) (harg6 : arg6.IsWhole) (arg7 : Memref sig .tc .vmem S512x5120 .fp8e4m3) (harg7 : arg7.IsWhole) (arg8 : Memref sig .tc .vmem S512x1 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S2x512x256 .f32) (harg13 : arg13.IsWhole) (arg14 : Memref sig .tc .vmem S512x128 .f32) (harg14 : arg14.IsWhole) (arg15 : Memref sig .tc .vmem S512x128 .f32) (harg15 : arg15.IsWhole) (hc0 : cond0_0 i)
    (x0 : Vec F S512x5120 .bf16) (x1 : Vec F S512x1 .f32) (x2 : Vec F S5120x1280 .fp8e4m3) (x3 : Vec F S1x1280 .f32) (x4 : Vec F S512x1280 .fp8e4m3) :
    Σ' (L5 : List (View.Piece (Elt F) S512x1280 .f32)) (L8 : List (View.Piece (Elt F) S512x128 .f32)) (L9 : List (View.Piece (Elt F) S512x128 .f32)) (L10 : List (View.Piece (Elt F) S512x128 .f32)), { L11 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, (arg6.view.loc (c : Thread nD τ) ↦[arg6.view.set]{fullShare} arg6.view.writes (Elt F) f L5)) ∗ owns (c : Thread nD τ) arg7 fullShare (codes x0) ∗ owns (c : Thread nD τ) arg8 fullShare (scales x0) ∗ (∃ f, (arg9.view.loc (c : Thread nD τ) ↦[arg9.view.set]{fullShare} arg9.view.writes (Elt F) f L8)) ∗ (∃ f, (arg10.view.loc (c : Thread nD τ) ↦[arg10.view.set]{fullShare} arg10.view.writes (Elt F) f L9)) ∗ (∃ f, (arg11.view.loc (c : Thread nD τ) ↦[arg11.view.set]{fullShare} arg11.view.writes (Elt F) f L10)) ∗ (∃ f, (arg12.view.loc (c : Thread nD τ) ↦[arg12.view.set]{fullShare} arg12.view.writes (Elt F) f L11)) ∗ (∃ d, owns (c : Thread nD τ) arg13 fullShare d) ∗ owns (c : Thread nD τ) arg14 fullShare (rowFactors x0) ∗ (∃ d, owns (c : Thread nD τ) arg15 fullShare d)) -∗ K PUnit.unit))
          ⊢ wp frame (wpE (defs₀ (F := F)) Variants.none c none) E (cc0_head i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
    refine ⟨?_, ?_, ?_, ?_, ?_, fun E K => ?run⟩
    case run =>
    simp only [cc0_head_eq_skeleton]; unfold cc0_head_skel
    simp only [k0_part147_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part148_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [HL0]
    · iexists _; isplitr; · ipureintro; exact harg1.read_unread _
      iexact HL0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [HL1]
    · iexists _; isplitr; swap; · iexact HL1
      ipureintro; rw [harg7.read_unread, harg1.read_unread]
    isplitl [HL2]
    · iexists _; isplitr; swap; · iexact HL2
      ipureintro; rw [harg8.read_unread, harg1.read_unread]
    isplitl [H8]
    · iexists _; iexact H8
    isplitl [H9]
    · iexists _; iexact H9
    isplitl [H10]
    · iexists _; iexact H10
    isplitl [H11]
    · iexists _; iexact H11
    isplitl [HS0]
    · iexists _, _; isplitr; swap; · iexact HS0
      ipureintro; rfl
    isplitl [HL3]
    · iexists _; isplitr; swap; · iexact HL3
      ipureintro; rw [harg14.read_unread, harg1.read_unread]
    iexists _, _; isplitr; swap; · iexact HS2
    ipureintro; rfl

end Cert.Head.Gen

end
-- ==== Proof.PrintedRunRest.lean ====
/- (The program as printed.) The body of the kernel at a point after the first (the branch not taken): with the codes and the row factors in place
   it leaves, in each output buffer, a fixed list of stores over what it was given. -/
module

public import proofs.«01_k».proof.Proof.PrintedBodyPoints
public import Idealize.ShloMosaic.Lib.Pipeline.ValueKit
public import Idealize.ShloMosaic.Lib.Pipeline.ReadBack

@[expose] public section

-- membership in a rectangle of production extents (`View.cover_of_tiled`): the elaborator's structural look
-- recurses once per coordinate of the long axes
set_option maxRecDepth 16384

noncomputable section

namespace Cert.Head.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 10392000 in set_option sl_exec.squeezeSlice true in
/-- The body where its branch is not taken: the inputs, the codes, the scales and the two row factors are handed back as
    they were; the logits block and the four statistics end with the stores found here written over them. -/
def runRest (c : Dev nD) (i : grid0.Coords) (arg1 : Memref sig .tc .vmem S512x5120 .bf16) (harg1 : arg1.IsWhole) (arg2 : Memref sig .tc .vmem S512x1 .f32) (harg2 : arg2.IsWhole) (arg3 : Memref sig .tc .vmem S5120x1280 .fp8e4m3) (harg3 : arg3.IsWhole) (arg4 : Memref sig .tc .vmem S1x1280 .f32) (harg4 : arg4.IsWhole) (arg5 : Memref sig .tc .vmem S512x1280 .fp8e4m3) (harg5 : arg5.IsWhole) (arg6 : Memref sig .tc .vmem S512x1280 .f32) (harg6 : arg6.IsWhole) (arg7 : Memref sig .tc .vmem S512x5120 .fp8e4m3) (harg7 : arg7.IsWhole) (arg8 : Memref sig .tc .vmem S512x1 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S2x512x256 .f32) (harg13 : arg13.IsWhole) (arg14 : Memref sig .tc .vmem S512x128 .f32) (harg14 : arg14.IsWhole) (arg15 : Memref sig .tc .vmem S512x128 .f32) (harg15 : arg15.IsWhole) (hc0 : ¬cond0_0 i)
    (x0 : Vec F S512x5120 .bf16) (x1 : Vec F S512x1 .f32) (x2 : Vec F S5120x1280 .fp8e4m3) (x3 : Vec F S1x1280 .f32) (x4 : Vec F S512x1280 .fp8e4m3)
    (x6 : Vec F S512x5120 .fp8e4m3) (x7 : Vec F S512x1 .f32) (x8 x9 x10 x11 k1 k2 : Vec F S512x128 .f32) :
    Σ' (L5 : List (View.Piece (Elt F) S512x1280 .f32)) (L8 : List (View.Piece (Elt F) S512x128 .f32)) (L9 : List (View.Piece (Elt F) S512x128 .f32)) (L10 : List (View.Piece (Elt F) S512x128 .f32)), { L11 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare k1 ∗ owns (c : Thread nD τ) arg15 fullShare k2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, (arg6.view.loc (c : Thread nD τ) ↦[arg6.view.set]{fullShare} arg6.view.writes (Elt F) f L5)) ∗ owns (c : Thread nD τ) arg7 fullShare x6 ∗ owns (c : Thread nD τ) arg8 fullShare x7 ∗ (∃ f, (arg9.view.loc (c : Thread nD τ) ↦[arg9.view.set]{fullShare} arg9.view.writes (Elt F) f L8)) ∗ (∃ f, (arg10.view.loc (c : Thread nD τ) ↦[arg10.view.set]{fullShare} arg10.view.writes (Elt F) f L9)) ∗ (∃ f, (arg11.view.loc (c : Thread nD τ) ↦[arg11.view.set]{fullShare} arg11.view.writes (Elt F) f L10)) ∗ (∃ f, (arg12.view.loc (c : Thread nD τ) ↦[arg12.view.set]{fullShare} arg12.view.writes (Elt F) f L11)) ∗ (∃ d, owns (c : Thread nD τ) arg13 fullShare d) ∗ owns (c : Thread nD τ) arg14 fullShare k1 ∗ owns (c : Thread nD τ) arg15 fullShare k2) -∗ K PUnit.unit))
          ⊢ wp frame (wpE (defs₀ (F := F)) Variants.none c none) E (cc0_head i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
    refine ⟨?_, ?_, ?_, ?_, ?_, fun E K => ?run⟩
    case run =>
    simp only [cc0_head_eq_skeleton]; unfold cc0_head_skel
    simp only [k0_part147_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part148_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hfs1; obtain rfl := harg15.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    isplitl [H9]
    · iexists _; iexact H9
    isplitl [H10]
    · iexists _; iexact H10
    isplitl [H11]
    · iexists _; iexact H11
    isplitl [HS0]
    · iexists _, _; isplitr; swap; · iexact HS0
      ipureintro; rfl
    isplitl [HS1]
    · iexists _; isplitr; · ipureintro; exact harg14.read_unread _
      iexact HS1
    iexists _; isplitr; · ipureintro; exact harg15.read_unread _
    iexact HS2

end Cert.Head.Gen

end
-- ==== Proof.PrintedRun.lean ====
/- The whole run of the kernel as printed: what its scratch and its code and scale blocks hold between the points, the body
   obligation, the launch, and the frame of the arguments. The logits and the running maxima and sums are not named here. -/
module

public import proofs.«01_k».proof.Proof.PrintedRunFirst
public import proofs.«01_k».proof.Proof.PrintedRunRest
public import Idealize.ShloMosaic.Lib.Claim
public import Idealize.ShloMosaic.Lib.Pipeline.TableIdle
public import Idealize.ShloMosaic.Lib.Pipeline.ValueKit

@[expose] public section

-- membership in a rectangle of production extents (`View.cover_of_tiled`): the elaborator's structural look
-- recurses once per coordinate of the long axes
set_option maxRecDepth 16384

noncomputable section

namespace Cert.Head.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The outputs nothing is said of: the logits, running maxima and sums. -/
def forgets0 : Fin 12 → Bool := fun w => w.val == 5 || w.val == 8 || w.val == 9 || w.val == 10 || w.val == 11

/-- The input rows, as the kernel's first window stages them. -/
def rowsIn (c : Dev nD) : Vec F S512x5120 .bf16 := V m c (Pipeline.arrRef spec0 0)

theorem index0_0 : ∀ t : Fin cfg0.N, win0_0.index t = ![0, 0] := (by decide +kernel : ∀ t : Fin grid0.N, _)

/-- The first window stages the whole array at every point. -/
theorem iblk0_eq (c : Dev nD) (t : Fin cfg0.N) : iblk m c 0 t = rowsIn m c := by
  unfold rowsIn
  funext y
  blk_simp [iblk]
  refine congrArg (V m c main_v0) ?_
  blk_ext [index0_0]

/-- The scratch between the points: the row factors are there from the first point on; the rest is arbitrary. -/
def carried (c : Dev nD) : sProp 𝕄 :=
  iprop(iprop((∃ d, owns (c : Thread nD τ) scM0_0 fullShare d) ∗ owns (c : Thread nD τ) scM0_1 fullShare (rowFactors (rowsIn m c)) ∗ (∃ d, owns (c : Thread nD τ) scM0_2 fullShare d)) ∗ (∃ r, prngReg c r))

/-- The scratch before point `t`. -/
def inv (c : Dev nD) (t : ℕ) : sProp 𝕄 := if t = 0 then Pipeline.ΦA spec0 c else carried m c

theorem inv_zero (c : Dev nD) (t : ℕ) (h : t = 0) : (inv m c t : sProp 𝕄) = Pipeline.ΦA spec0 c := if_pos h
theorem inv_pos (c : Dev nD) (t : ℕ) (h : ¬ t = 0) : (inv m c t : sProp 𝕄) = carried m c := if_neg h

/-- The proof data: the inputs' blocks stay; the codes and scales are named; the rest is not. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, _⟩ => codes (rowsIn m c)
    | ⟨7, _⟩ => scales (rowsIn m c)
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ t := inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_6 (c : Dev nD) (t : Fin cfg0.N) : (dats m 0 c).after 6 t = codes (rowsIn m c) := by dsimp only [dats]
theorem after0_7 (c : Dev nD) (t : Fin cfg0.N) : (dats m 0 c).after 7 t = scales (rowsIn m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The last window in use is never idle. -/
theorem liveAt0_5 (t : Fin cfg0.N) : cfg0.idle 5 (cfg0.grid.coords t) = false := rfl

/-- Output 6 is stored at the first point only, -/
theorem idleAt0_6 (t : Fin cfg0.N) (h : ¬ t.val % 25 = 0) : cfg0.idle 6 (cfg0.grid.coords t) = true := by
  show (!(k0_cond1 (grid0.coords t) == 1#1)) = true
  rw [beq_eq_false_iff_ne.mpr (fun e => h ((hcond0_0 t).mp e))]; rfl
theorem liveAt0_6 (t : Fin cfg0.N) (h : t.val % 25 = 0) : cfg0.idle 6 (cfg0.grid.coords t) = false := by
  show (!(k0_cond1 (grid0.coords t) == 1#1)) = false
  rw [beq_iff_eq.mpr ((hcond0_0 t).mpr h)]; rfl
/-- so from the second point on its buffer holds what that point stored. -/
theorem stored0_6 : ∀ n : ℕ, n < 24 → cfg0.fresh 6 (n + 1) = false
  | 0, _ => by
    rw [cfg0.fresh_succ 6 0 (lt_of_lt_of_eq (by decide : 0 < 25) (show 25 = cfg0.N from N_0.symm)), liveAt0_6 _ (by rfl), Bool.false_and, Bool.or_false]
    exact eq_false_of_ne_true fun e => absurd ((flush0_6 _).mp e) (by show ¬ (0 % 25 = 24); decide)
  | n + 1, h => by
    have hn : n + 1 < cfg0.N := lt_of_lt_of_eq (by omega : n + 1 < 25) (show 25 = cfg0.N from N_0.symm)
    rw [cfg0.fresh_succ 6 (n + 1) hn, stored0_6 n (by omega), Bool.and_false, Bool.or_false]
    exact eq_false_of_ne_true fun e => absurd ((flush0_6 _).mp e) (by show ¬ ((n + 1) % 25 = 24); omega)
theorem before0_6 (c : Dev nD) (t : Fin cfg0.N) (h : ¬ t.val % 25 = 0) (d) : (dats m 0 c).before 6 t d = codes (rowsIn m c) := by
  have hN : t.val < 25 := lt_of_lt_of_eq t.isLt (show cfg0.N = 25 from N_0)
  rw [(dats m 0 c).before_out_traj 6 rfl (fun _ _ => rfl) (fun t _ _ _ => by rw [after0_6, after0_6]) t.val t rfl d,
    if_neg (by rw [show t.val = t.val - 1 + 1 by omega, stored0_6 _ (by omega)]; exact Bool.false_ne_true), after0_6]
/-- What the body leaves of it, at any point: the same. -/
theorem leaves0_6 (c : Dev nD) (t : Fin cfg0.N) :
    owns (c : Thread nD τ) (ms0_6 t) fullShare (codes (rowsIn m c)) ⊢ ((dats m 0 c).leavesExact 6 t : sProp 𝕄) := by
  unfold Dat.leavesExact
  by_cases h : t.val % 25 = 0
  · rw [liveAt0_6 t h]
    dsimp only
    rw [after0_6]
  · rw [idleAt0_6 t h]
    cases (cfg0.win 6).flush t
    · dsimp only
      simp only [before0_6 m c t h]
      iintro H
      iexists fun _ => Classical.arbitrary _
      iexact H
    · dsimp only
      rw [after0_6]

/-- Output 7 is stored at the first point only, -/
theorem idleAt0_7 (t : Fin cfg0.N) (h : ¬ t.val % 25 = 0) : cfg0.idle 7 (cfg0.grid.coords t) = true := by
  show (!(k0_cond1 (grid0.coords t) == 1#1)) = true
  rw [beq_eq_false_iff_ne.mpr (fun e => h ((hcond0_0 t).mp e))]; rfl
theorem liveAt0_7 (t : Fin cfg0.N) (h : t.val % 25 = 0) : cfg0.idle 7 (cfg0.grid.coords t) = false := by
  show (!(k0_cond1 (grid0.coords t) == 1#1)) = false
  rw [beq_iff_eq.mpr ((hcond0_0 t).mpr h)]; rfl
/-- so from the second point on its buffer holds what that point stored. -/
theorem stored0_7 : ∀ n : ℕ, n < 24 → cfg0.fresh 7 (n + 1) = false
  | 0, _ => by
    rw [cfg0.fresh_succ 7 0 (lt_of_lt_of_eq (by decide : 0 < 25) (show 25 = cfg0.N from N_0.symm)), liveAt0_7 _ (by rfl), Bool.false_and, Bool.or_false]
    exact eq_false_of_ne_true fun e => absurd ((flush0_7 _).mp e) (by show ¬ (0 % 25 = 24); decide)
  | n + 1, h => by
    have hn : n + 1 < cfg0.N := lt_of_lt_of_eq (by omega : n + 1 < 25) (show 25 = cfg0.N from N_0.symm)
    rw [cfg0.fresh_succ 7 (n + 1) hn, stored0_7 n (by omega), Bool.and_false, Bool.or_false]
    exact eq_false_of_ne_true fun e => absurd ((flush0_7 _).mp e) (by show ¬ ((n + 1) % 25 = 24); omega)
theorem before0_7 (c : Dev nD) (t : Fin cfg0.N) (h : ¬ t.val % 25 = 0) (d) : (dats m 0 c).before 7 t d = scales (rowsIn m c) := by
  have hN : t.val < 25 := lt_of_lt_of_eq t.isLt (show cfg0.N = 25 from N_0)
  rw [(dats m 0 c).before_out_traj 7 rfl (fun _ _ => rfl) (fun t _ _ _ => by rw [after0_7, after0_7]) t.val t rfl d,
    if_neg (by rw [show t.val = t.val - 1 + 1 by omega, stored0_7 _ (by omega)]; exact Bool.false_ne_true), after0_7]
/-- What the body leaves of it, at any point: the same. -/
theorem leaves0_7 (c : Dev nD) (t : Fin cfg0.N) :
    owns (c : Thread nD τ) (ms0_7 t) fullShare (scales (rowsIn m c)) ⊢ ((dats m 0 c).leavesExact 7 t : sProp 𝕄) := by
  unfold Dat.leavesExact
  by_cases h : t.val % 25 = 0
  · rw [liveAt0_7 t h]
    dsimp only
    rw [after0_7]
  · rw [idleAt0_7 t h]
    cases (cfg0.win 7).flush t
    · dsimp only
      simp only [before0_7 m c t h]
      iintro H
      iexists fun _ => Classical.arbitrary _
      iexact H
    · dsimp only
      rw [after0_7]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = carried m c from inv_pos m c _ (Nat.succ_ne_zero t.val)]
  have hN : t.val < 25 := lt_of_lt_of_eq t.isLt (show cfg0.N = 25 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val % 25 = 0
  · rw [show (dats m 0 c).Φ t.castSucc = Pipeline.ΦA spec0 c from inv_zero m c _ (show t.val = 0 by omega), PhiA0_eq]
    unfold carried
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runFirst c (grid0.coords t) _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t)).2.2.2.2.property Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    iintro ⟨H0, H1, H2, H3, H4, H5, H6, H7, H8, H9, H10, H11, HS0, HS1, HS2⟩
    isplitl [HS0 HS1 HS2 Hg]
    · isplitl [HS0 HS1 HS2]
      · isplitl [HS0]
        · iexact HS0
        isplitl [HS1]
        · rw [iblk0_eq]; iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · icases H5 with ⟨%f5, H5⟩
      unfold owns
      iexists _, _; isplitr; swap; · iexact H5
      ipureintro; rfl
    isplitl [H6]; · iapply (leaves0_6 m c t); rw [iblk0_eq]; iexact H6
    isplitl [H7]; · iapply (leaves0_7 m c t); rw [iblk0_eq]; iexact H7
    isplitl [H8]
    · icases H8 with ⟨%f8, H8⟩
      unfold owns
      iexists _, _; isplitr; swap; · iexact H8
      ipureintro; rfl
    isplitl [H9]
    · icases H9 with ⟨%f9, H9⟩
      unfold owns
      iexists _, _; isplitr; swap; · iexact H9
      ipureintro; rfl
    isplitl [H10]
    · icases H10 with ⟨%f10, H10⟩
      unfold owns
      iexists _, _; isplitr; swap; · iexact H10
      ipureintro; rfl
    icases H11 with ⟨%f11, H11⟩
    unfold owns
    iexists _, _; isplitr; swap; · iexact H11
    ipureintro; rfl
  · rw [show (dats m 0 c).Φ t.castSucc = carried m c from inv_pos m c _ (show ¬ t.val = 0 by omega)]
    unfold carried
    simp only [before0_6 m c t h0, before0_7 m c t h0]
    iintro ⟨⟨⟨HS0, HS1, ⟨%k2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runRest c (grid0.coords t) _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (codes (rowsIn m c)) (scales (rowsIn m c)) d8 d9 d10 d11 (rowFactors (rowsIn m c)) k2).2.2.2.2.property Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    iintro ⟨H0, H1, H2, H3, H4, H5, H6, H7, H8, H9, H10, H11, HS0, HS1, HS2⟩
    isplitl [HS0 HS1 HS2 Hg]
    · isplitl [HS0 HS1 HS2]
      · isplitl [HS0]
        · iexact HS0
        isplitl [HS1]
        · iexact HS1
        iexists _; iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · icases H5 with ⟨%f5, H5⟩
      unfold owns
      iexists _, _; isplitr; swap; · iexact H5
      ipureintro; rfl
    isplitl [H6]; · iapply (leaves0_6 m c t); iexact H6
    isplitl [H7]; · iapply (leaves0_7 m c t); iexact H7
    isplitl [H8]
    · icases H8 with ⟨%f8, H8⟩
      unfold owns
      iexists _, _; isplitr; swap; · iexact H8
      ipureintro; rfl
    isplitl [H9]
    · icases H9 with ⟨%f9, H9⟩
      unfold owns
      iexists _, _; isplitr; swap; · iexact H9
      ipureintro; rfl
    isplitl [H10]
    · icases H10 with ⟨%f10, H10⟩
      unfold owns
      iexists _, _; isplitr; swap; · iexact H10
      ipureintro; rfl
    icases H11 with ⟨%f11, H11⟩
    unfold owns
    iexists _, _; isplitr; swap; · iexact H11
    ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- After the last point the scratch is given up. -/
theorem carried_forget (c : Dev nD) : (carried m c : sProp 𝕄) ⊢ Pipeline.ΦA spec0 c := by
  rw [PhiA0_eq]
  unfold carried
  iintro ⟨⟨HS0, HS1, HS2⟩, Hg⟩
  isplitl [HS0 HS1 HS2]
  · isplitl [HS0]
    · iexact HS0
    isplitl [HS1]
    · iexists _; iexact HS1
    iexact HS2
  iexact Hg

/-! ## The run and the frame -/

set_option backward.isDefEq.respectTransparency.types false in
/-- Every run ends, the arrays as the proof data say, every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hin := fun c => (show Pipeline.ΦA spec0 c ⊢ inv m c 0 from by rw [inv_zero m c 0 rfl]))
    (hout := fun c => (show inv m c cfg0.N ⊢ Pipeline.ΦA spec0 c from by
      rw [inv_pos m c cfg0.N (show ¬ cfg0.N = 0 from fun h => absurd ((show cfg0.N = 25 from N_0).symm.trans h) (by decide))]
      exact carried_forget m c))

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments after a run are the arguments before it. -/
theorem unchanged_of_post {r : PUnit × MemSt nD τ sig (Elt F)} (h : Pipeline.RDat.FramePost (cfgs 0) (fun c => (dats m 0 c).toRForget forgets0) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
      (Pipeline.RDat.FramePost.arr_in h c 2 rfl).trans ((A_eq m c 2).trans (V_main_arg1 m c)),
      ((h c).2 main_arg2 (Pipeline.mem_restRefs_of main_arg2 (by decide) (by decide))).trans (V_main_arg2 m c),
      (Pipeline.RDat.FramePost.arr_in h c 4 rfl).trans ((A_eq m c 4).trans (V_main_arg3 m c)),
      ((h c).2 main_arg4 (Pipeline.mem_restRefs_of main_arg4 (by decide) (by decide))).trans (V_main_arg4 m c)⟩

/-- The frame: every run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨unchanged_of_post m h.1, h.2⟩) (run_main_quiescent m ρ)

end Cert.Head.Gen

end
-- ==== Proof.BodyPoints.lean ====
/- What the two cases of the kernel body are stated over: when the body's one branch is taken, where the windows are
   live, the staging and scratch buffers as memrefs, and the pipeline's scratch invariant spelled with them. -/
module

public import proofs.«01_k».proof.Proof.Gen.HeadIdeal.Frame
public import proofs.«01_k».proof.Proof.Gen.HeadIdeal.Loops

@[expose] public section

-- membership in a rectangle of production extents (`View.cover_of_tiled`): the elaborator's structural look
-- recurses once per coordinate of the long axes
set_option maxRecDepth 16384

noncomputable section

namespace Cert.HeadIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [cond0_0, k0_cond1, e0]
    word_cmp
   : ∀ t : Fin grid0.N, cond0_0 (grid0.coords t) ↔ t.val % 25 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5120x1280 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1280 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1280 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1280 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x5120 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x128 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S2x512x256 .f32 := Memref.whole cc0_scratch0
abbrev scM0_1 : Memref sig .tc .vmem S512x128 .f32 := Memref.whole cc0_scratch1
abbrev scM0_2 : Memref sig .tc .vmem S512x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.HeadIdeal.Gen

end
-- ==== Proof.Quantise.lean ====
/- The quantising loop of the first point: 16 trips of 32 rows each write the codes, the scales and the scales times a
   constant. Here: what the three buffers hold after the loop, as functions of the whole input. -/
module

public import proofs.«01_k».proof.Proof.BodyPoints
public import Idealize.ShloMosaic.Lib.Pipeline.ValueKit
public import Idealize.ShloMosaic.Lib.Pipeline.ReadBack
public import Idealize.ShloMosaic.Lib.Pointwise.Index
public import Idealize.ShloMosaic.Lib.WritesUnit

@[expose] public section

set_option maxRecDepth 16384

noncomputable section

namespace Cert.HeadIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The 32 rows of chunk `k` of the input. -/
def chunk (x : Vec F S512x5120 .bf16) (k : Fin 16) : Vec F S32x5120 .bf16 :=
  fun y => x (ix2 ⟨32 * k.val + (y 0).val, by have := (y 0).isLt; have : (y 0).val < 32 := this; omega⟩ (y 1))

/-- The chunk a row of the input lies in. -/
def rowChunk (r : Fin 512) : Fin 16 := ⟨r.val / 32, by omega⟩

/-- A row's place in its chunk. -/
def rowIn (r : Fin 512) : Fin 32 := ⟨r.val % 32, Nat.mod_lt _ (by decide)⟩

/-- The codes of the input: each row is quantised with its chunk. -/
def codes (x : Vec F S512x5120 .bf16) : Vec F S512x5120 .fp8e4m3 :=
  fun y => k0_pay6 (chunk x (rowChunk (y 0))) (ix2 (rowIn (y 0)) (y 1))

/-- The scales of the input, one per row. -/
def scales (x : Vec F S512x5120 .bf16) : Vec F S512x1 .f32 :=
  fun y => k0_pay7 (F := F) (k0_pay5 (chunk x (rowChunk (y 0)))) (ix2 (rowIn (y 0)) (y 1))

/-- The scales times the constant of the logits, repeated along 128 lanes. -/
def rowFactors (x : Vec F S512x5120 .bf16) : Vec F S512x128 .f32 :=
  fun y => k0_pay8 (F := F) (k0_pay5 (chunk x (rowChunk (y 0)))) (ix2 (rowIn (y 0)) (y 1))

/-- The load of trip `k` reads chunk `k`. -/
theorem load_chunk {arg1 : Memref sig .tc .vmem S512x5120 .bf16} (X : BufTy.Contents (Elt F) arg1.view.ty) (k : Fin 16)
    (off : Fin 2 → ℕ) (hoff : off = ![32 * k.val, 0]) (inb : ∀ a : Fin 2, off a + S32x5120.size a ≤ S512x5120.size a) :
    (View.readAt (Elt F) arg1.view (Rect.unit (s := S512x5120) off S32x5120.size inb).toLoadRect X : Vec F S32x5120 .bf16)
      = chunk (arg1.view.read (Elt F) X) k := by
  subst hoff
  funext y
  rw [View.readAt_eq_ld, View.ld_apply]
  unfold chunk
  congr 1
  funext a
  fin_cases a <;> apply Fin.ext <;> simp [Rect.idx_unit_val, ix2]

/-- One trip more: if the rows before trip `k` read as `T` and the trip writes the rows of `T` it covers, then the rows
    before trip `k + 1` read as `T`. -/
theorem rows_step {W : ℕ} {e : EltTy} {arg : Memref sig .tc .vmem (⟨2, ![512, W]⟩ : Shape) e}
    (f : BufTy.Contents (Elt F) arg.view.ty) (T : Vec F (⟨2, ![512, W]⟩ : Shape) e) (k : Fin 16)
    (off : Fin 2 → ℕ) (hoff : off = ![32 * k.val, 0])
    (inb : ∀ a : Fin 2, off a + (![32, W] : Fin 2 → ℕ) a ≤ (![512, W] : Fin 2 → ℕ) a)
    (w : Vec F (⟨2, ![32, W]⟩ : Shape) e)
    (hw : ∀ y : (⟨2, ![512, W]⟩ : Shape).Idx, rowChunk (y 0) = k → w (ix2 (rowIn (y 0)) (y 1)) = T y)
    (hT : ∀ y : (⟨2, ![512, W]⟩ : Shape).Idx, (y 0).val < 32 * k.val → arg.view.read (Elt F) f y = T y)
    (y : (⟨2, ![512, W]⟩ : Shape).Idx) (hy : (y 0).val < 32 * (k.val + 1)) :
    arg.view.read (Elt F) (arg.view.writes (Elt F) f
      [⟨Rect.unit (s := ⟨2, ![512, W]⟩) off ![32, W] inb, w⟩]) y = T y := by
  by_cases h : (y 0).val < 32 * k.val
  · rw [View.read_writes_cons_rows_of_not_mem _ _ inb w [] y hoff rfl (Or.inl h), View.writes_nil]
    exact hT y h
  · have hk : rowChunk (y 0) = k := Fin.ext (by show (y 0).val / 32 = k.val; omega)
    rw [View.read_writes_cons_rows_of_mem _ _ inb w [] y (ix2 (rowIn (y 0)) (y 1)) hoff
      (by show (y 0).val = 32 * k.val + (y 0).val % 32; omega) rfl]
    exact hw y hk

/-- Where trip `k` reads and writes: from row `32 k`. -/
theorem off1_eq : ∀ k : Fin k0_t1_loop.trips, k0_off1 k = ![32 * k.val, 0] := by decide +kernel

theorem off2_eq : ∀ k : Fin k0_t1_loop.trips, k0_off2 k = ![32 * k.val, 0] := by decide +kernel

theorem off3_eq : ∀ k : Fin k0_t1_loop.trips, k0_off3 k = ![32 * k.val, 0] := by decide +kernel

/-- The loop's trips count the chunks. -/
theorem trips_le : k0_t1_loop.trips ≤ 16 := k0_t1_abs.2.1

set_option warn.classDefReducibility false in
/-- The loop's invariant before trip `k`: the rows of the chunks before it are done. -/
@[sl_loop] def loopRows (𝒱 : Variants) (c : Dev nD) (bd : Option 𝒱.V) (E : Set ℕ) (i : grid0.Coords) (arg1 : Memref sig .tc .vmem S512x5120 .bf16) (harg1 : arg1.IsWhole) (arg2 : Memref sig .tc .vmem S512x1 .f32) (harg2 : arg2.IsWhole) (arg3 : Memref sig .tc .vmem S5120x1280 .fp8e4m3) (harg3 : arg3.IsWhole) (arg4 : Memref sig .tc .vmem S1x1280 .f32) (harg4 : arg4.IsWhole) (arg5 : Memref sig .tc .vmem S512x1280 .fp8e4m3) (harg5 : arg5.IsWhole) (arg6 : Memref sig .tc .vmem S512x1280 .f32) (harg6 : arg6.IsWhole) (arg7 : Memref sig .tc .vmem S512x5120 .fp8e4m3) (harg7 : arg7.IsWhole) (arg8 : Memref sig .tc .vmem S512x1 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S2x512x256 .f32) (harg13 : arg13.IsWhole) (arg14 : Memref sig .tc .vmem S512x128 .f32) (harg14 : arg14.IsWhole) (arg15 : Memref sig .tc .vmem S512x128 .f32) (harg15 : arg15.IsWhole) (k0_h1 : k0_cond1 i = 1#1) (X_arg1 : BufTy.Contents (Elt F) arg1.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h1 where
  inv k _ := iprop((arg1.view.loc (c : Thread nD τ) ↦[arg1.view.set]{fullShare} X_arg1)
    ∗ (∃ f, (arg7.view.loc (c : Thread nD τ) ↦[arg7.view.set]{fullShare} f)
        ∗ ⌜∀ y : S512x5120.Idx, (y 0).val < 32 * k → arg7.view.read (Elt F) f y = codes (arg1.view.read (Elt F) X_arg1) y⌝)
    ∗ (∃ f, (arg8.view.loc (c : Thread nD τ) ↦[arg8.view.set]{fullShare} f)
        ∗ ⌜∀ y : S512x1.Idx, (y 0).val < 32 * k → arg8.view.read (Elt F) f y = scales (arg1.view.read (Elt F) X_arg1) y⌝)
    ∗ (∃ f, (arg14.view.loc (c : Thread nD τ) ↦[arg14.view.set]{fullShare} f)
        ∗ ⌜∀ y : S512x128.Idx, (y 0).val < 32 * k → arg14.view.read (Elt F) f y = rowFactors (arg1.view.read (Elt F) X_arg1) y⌝))
  step k acc := by
    have hk : k.val < 16 := Nat.lt_of_lt_of_le k.isLt trips_le
    unfold k0_t1_body
    iintro ⟨H1, ⟨%f7, H7, %h7⟩, ⟨%f8, H8, %h8⟩, ⟨%f14, H14, %h14⟩⟩
    sl_exec
    sl_step
    isplitl [H1]; · iexact H1
    isplitl [H7]
    · iexists _; isplitl [H7]; · iexact H7
      ipureintro
      refine rows_step (arg := arg7) f7 _ ⟨k.val, hk⟩ _ (off1_eq k) _ _ ?_ h7
      intro y hy
      sl_unfold_run_names
      rw [load_chunk X_arg1 ⟨k.val, hk⟩ _ (off1_eq k)]
      unfold codes; rw [hy]
    isplitl [H8]
    · iexists _; isplitl [H8]; · iexact H8
      ipureintro
      refine rows_step (arg := arg8) f8 _ ⟨k.val, hk⟩ _ (off2_eq k) _ _ ?_ h8
      intro y hy
      sl_unfold_run_names
      rw [load_chunk X_arg1 ⟨k.val, hk⟩ _ (off1_eq k)]
      unfold scales; rw [hy]
    iexists _; isplitl [H14]; · iexact H14
    ipureintro
    refine rows_step (arg := arg14) f14 _ ⟨k.val, hk⟩ _ (off3_eq k) _ _ ?_ h14
    intro y hy
    sl_unfold_run_names
    rw [load_chunk X_arg1 ⟨k.val, hk⟩ _ (off1_eq k)]
    unfold rowFactors; rw [hy]

/-- After the loop the three buffers hold the codes, the scales and the row factors. -/
instance loopRowsExit (𝒱 : Variants) (c : Dev nD) (bd : Option 𝒱.V) (E : Set ℕ) (i : grid0.Coords) (arg1 : Memref sig .tc .vmem S512x5120 .bf16) (harg1 : arg1.IsWhole) (arg2 : Memref sig .tc .vmem S512x1 .f32) (harg2 : arg2.IsWhole) (arg3 : Memref sig .tc .vmem S5120x1280 .fp8e4m3) (harg3 : arg3.IsWhole) (arg4 : Memref sig .tc .vmem S1x1280 .f32) (harg4 : arg4.IsWhole) (arg5 : Memref sig .tc .vmem S512x1280 .fp8e4m3) (harg5 : arg5.IsWhole) (arg6 : Memref sig .tc .vmem S512x1280 .f32) (harg6 : arg6.IsWhole) (arg7 : Memref sig .tc .vmem S512x5120 .fp8e4m3) (harg7 : arg7.IsWhole) (arg8 : Memref sig .tc .vmem S512x1 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S2x512x256 .f32) (harg13 : arg13.IsWhole) (arg14 : Memref sig .tc .vmem S512x128 .f32) (harg14 : arg14.IsWhole) (arg15 : Memref sig .tc .vmem S512x128 .f32) (harg15 : arg15.IsWhole) (k0_h1 : k0_cond1 i = 1#1) (X_arg1 : BufTy.Contents (Elt F) arg1.view.ty) :
    LoopExit (loopRows (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h1 X_arg1) where
  post _ := iprop((arg1.view.loc (c : Thread nD τ) ↦[arg1.view.set]{fullShare} X_arg1)
    ∗ (arg7.view.loc (c : Thread nD τ) ↦[arg7.view.set]{fullShare} harg7.unread (codes (arg1.view.read (Elt F) X_arg1)))
    ∗ (arg8.view.loc (c : Thread nD τ) ↦[arg8.view.set]{fullShare} harg8.unread (scales (arg1.view.read (Elt F) X_arg1)))
    ∗ (arg14.view.loc (c : Thread nD τ) ↦[arg14.view.set]{fullShare} harg14.unread (rowFactors (arg1.view.read (Elt F) X_arg1))))
  exit acc := by
    have htr : 512 ≤ 32 * Scf.trips k0_t1_loop.lb k0_t1_loop.ub k0_t1_loop.st := by decide
    unfold loopRows
    dsimp only
    iintro ⟨H1, ⟨%f7, H7, %h7⟩, ⟨%f8, H8, %h8⟩, ⟨%f14, H14, %h14⟩⟩
    obtain rfl := harg7.eq_unread (funext fun y => h7 y (lt_of_lt_of_le (y 0).isLt htr))
    obtain rfl := harg8.eq_unread (funext fun y => h8 y (lt_of_lt_of_le (y 0).isLt htr))
    obtain rfl := harg14.eq_unread (funext fun y => h14 y (lt_of_lt_of_le (y 0).isLt htr))
    isplitl [H1]; · iexact H1
    isplitl [H7]; · iexact H7
    isplitl [H8]; · iexact H8
    iexact H14

end Cert.HeadIdeal.Gen

end
-- ==== Proof.RunFirst.lean ====
/- The body of the kernel at the first point (the branch taken): it quantises the input, starts the statistics and then
   does what every point does. -/
module

public import proofs.«01_k».proof.Proof.Quantise

@[expose] public section

-- membership in a rectangle of production extents (`View.cover_of_tiled`): the elaborator's structural look
-- recurses once per coordinate of the long axes
set_option maxRecDepth 16384

noncomputable section

namespace Cert.HeadIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 10392000 in set_option sl_exec.squeezeSlice true in
/-- The body where its branch is taken: the codes, the scales and the row factors come from the input alone; the logits
    block and the four statistics end with the stores found here. -/
def runFirst (c : Dev nD) (i : grid0.Coords) (arg1 : Memref sig .tc .vmem S512x5120 .bf16) (harg1 : arg1.IsWhole) (arg2 : Memref sig .tc .vmem S512x1 .f32) (harg2 : arg2.IsWhole) (arg3 : Memref sig .tc .vmem S5120x1280 .fp8e4m3) (harg3 : arg3.IsWhole) (arg4 : Memref sig .tc .vmem S1x1280 .f32) (harg4 : arg4.IsWhole) (arg5 : Memref sig .tc .vmem S512x1280 .fp8e4m3) (harg5 : arg5.IsWhole) (arg6 : Memref sig .tc .vmem S512x1280 .f32) (harg6 : arg6.IsWhole) (arg7 : Memref sig .tc .vmem S512x5120 .fp8e4m3) (harg7 : arg7.IsWhole) (arg8 : Memref sig .tc .vmem S512x1 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S2x512x256 .f32) (harg13 : arg13.IsWhole) (arg14 : Memref sig .tc .vmem S512x128 .f32) (harg14 : arg14.IsWhole) (arg15 : Memref sig .tc .vmem S512x128 .f32) (harg15 : arg15.IsWhole) (hc0 : cond0_0 i)
    (x0 : Vec F S512x5120 .bf16) (x1 : Vec F S512x1 .f32) (x2 : Vec F S5120x1280 .fp8e4m3) (x3 : Vec F S1x1280 .f32) (x4 : Vec F S512x1280 .fp8e4m3) :
    Σ' (L5 : List (View.Piece (Elt F) S512x1280 .f32)) (L8 : List (View.Piece (Elt F) S512x128 .f32)) (L9 : List (View.Piece (Elt F) S512x128 .f32)) (L10 : List (View.Piece (Elt F) S512x128 .f32)), { L11 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, (arg6.view.loc (c : Thread nD τ) ↦[arg6.view.set]{fullShare} arg6.view.writes (Elt F) f L5)) ∗ owns (c : Thread nD τ) arg7 fullShare (codes x0) ∗ owns (c : Thread nD τ) arg8 fullShare (scales x0) ∗ (∃ f, (arg9.view.loc (c : Thread nD τ) ↦[arg9.view.set]{fullShare} arg9.view.writes (Elt F) f L8)) ∗ (∃ f, (arg10.view.loc (c : Thread nD τ) ↦[arg10.view.set]{fullShare} arg10.view.writes (Elt F) f L9)) ∗ (∃ f, (arg11.view.loc (c : Thread nD τ) ↦[arg11.view.set]{fullShare} arg11.view.writes (Elt F) f L10)) ∗ (∃ f, (arg12.view.loc (c : Thread nD τ) ↦[arg12.view.set]{fullShare} arg12.view.writes (Elt F) f L11)) ∗ (∃ d, owns (c : Thread nD τ) arg13 fullShare d) ∗ owns (c : Thread nD τ) arg14 fullShare (rowFactors x0) ∗ (∃ d, owns (c : Thread nD τ) arg15 fullShare d)) -∗ K PUnit.unit))
          ⊢ wp frame (wpE (defs₀ (F := F)) Variants.none c none) E (cc0_head i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
    refine ⟨?_, ?_, ?_, ?_, ?_, fun E K => ?run⟩
    case run =>
    simp only [cc0_head_eq_skeleton]; unfold cc0_head_skel
    simp only [k0_part147_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part148_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [HL0]
    · iexists _; isplitr; · ipureintro; exact harg1.read_unread _
      iexact HL0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [HL1]
    · iexists _; isplitr; swap; · iexact HL1
      ipureintro; rw [harg7.read_unread, harg1.read_unread]
    isplitl [HL2]
    · iexists _; isplitr; swap; · iexact HL2
      ipureintro; rw [harg8.read_unread, harg1.read_unread]
    isplitl [H8]
    · iexists _; iexact H8
    isplitl [H9]
    · iexists _; iexact H9
    isplitl [H10]
    · iexists _; iexact H10
    isplitl [H11]
    · iexists _; iexact H11
    isplitl [HS0]
    · iexists _, _; isplitr; swap; · iexact HS0
      ipureintro; rfl
    isplitl [HL3]
    · iexists _; isplitr; swap; · iexact HL3
      ipureintro; rw [harg14.read_unread, harg1.read_unread]
    iexists _, _; isplitr; swap; · iexact HS2
    ipureintro; rfl

end Cert.HeadIdeal.Gen

end
-- ==== Proof.RunRest.lean ====
/- The body of the kernel at a point after the first (the branch not taken): with the codes and the row factors in place
   it leaves, in each output buffer, a fixed list of stores over what it was given. -/
module

public import proofs.«01_k».proof.Proof.BodyPoints
public import Idealize.ShloMosaic.Lib.Pipeline.ValueKit
public import Idealize.ShloMosaic.Lib.Pipeline.ReadBack

@[expose] public section

-- membership in a rectangle of production extents (`View.cover_of_tiled`): the elaborator's structural look
-- recurses once per coordinate of the long axes
set_option maxRecDepth 16384

noncomputable section

namespace Cert.HeadIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 10392000 in set_option sl_exec.squeezeSlice true in
/-- The body where its branch is not taken: the inputs, the codes, the scales and the two row factors are handed back as
    they were; the logits block and the four statistics end with the stores found here written over them. -/
def runRest (c : Dev nD) (i : grid0.Coords) (arg1 : Memref sig .tc .vmem S512x5120 .bf16) (harg1 : arg1.IsWhole) (arg2 : Memref sig .tc .vmem S512x1 .f32) (harg2 : arg2.IsWhole) (arg3 : Memref sig .tc .vmem S5120x1280 .fp8e4m3) (harg3 : arg3.IsWhole) (arg4 : Memref sig .tc .vmem S1x1280 .f32) (harg4 : arg4.IsWhole) (arg5 : Memref sig .tc .vmem S512x1280 .fp8e4m3) (harg5 : arg5.IsWhole) (arg6 : Memref sig .tc .vmem S512x1280 .f32) (harg6 : arg6.IsWhole) (arg7 : Memref sig .tc .vmem S512x5120 .fp8e4m3) (harg7 : arg7.IsWhole) (arg8 : Memref sig .tc .vmem S512x1 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S2x512x256 .f32) (harg13 : arg13.IsWhole) (arg14 : Memref sig .tc .vmem S512x128 .f32) (harg14 : arg14.IsWhole) (arg15 : Memref sig .tc .vmem S512x128 .f32) (harg15 : arg15.IsWhole) (hc0 : ¬cond0_0 i)
    (x0 : Vec F S512x5120 .bf16) (x1 : Vec F S512x1 .f32) (x2 : Vec F S5120x1280 .fp8e4m3) (x3 : Vec F S1x1280 .f32) (x4 : Vec F S512x1280 .fp8e4m3)
    (x6 : Vec F S512x5120 .fp8e4m3) (x7 : Vec F S512x1 .f32) (x8 x9 x10 x11 k1 k2 : Vec F S512x128 .f32) :
    Σ' (L5 : List (View.Piece (Elt F) S512x1280 .f32)) (L8 : List (View.Piece (Elt F) S512x128 .f32)) (L9 : List (View.Piece (Elt F) S512x128 .f32)) (L10 : List (View.Piece (Elt F) S512x128 .f32)), { L11 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare k1 ∗ owns (c : Thread nD τ) arg15 fullShare k2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, (arg6.view.loc (c : Thread nD τ) ↦[arg6.view.set]{fullShare} arg6.view.writes (Elt F) f L5)) ∗ owns (c : Thread nD τ) arg7 fullShare x6 ∗ owns (c : Thread nD τ) arg8 fullShare x7 ∗ (∃ f, (arg9.view.loc (c : Thread nD τ) ↦[arg9.view.set]{fullShare} arg9.view.writes (Elt F) f L8)) ∗ (∃ f, (arg10.view.loc (c : Thread nD τ) ↦[arg10.view.set]{fullShare} arg10.view.writes (Elt F) f L9)) ∗ (∃ f, (arg11.view.loc (c : Thread nD τ) ↦[arg11.view.set]{fullShare} arg11.view.writes (Elt F) f L10)) ∗ (∃ f, (arg12.view.loc (c : Thread nD τ) ↦[arg12.view.set]{fullShare} arg12.view.writes (Elt F) f L11)) ∗ (∃ d, owns (c : Thread nD τ) arg13 fullShare d) ∗ owns (c : Thread nD τ) arg14 fullShare k1 ∗ owns (c : Thread nD τ) arg15 fullShare k2) -∗ K PUnit.unit))
          ⊢ wp frame (wpE (defs₀ (F := F)) Variants.none c none) E (cc0_head i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
    refine ⟨?_, ?_, ?_, ?_, ?_, fun E K => ?run⟩
    case run =>
    simp only [cc0_head_eq_skeleton]; unfold cc0_head_skel
    simp only [k0_part147_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part148_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hfs1; obtain rfl := harg15.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    isplitl [H9]
    · iexists _; iexact H9
    isplitl [H10]
    · iexists _; iexact H10
    isplitl [H11]
    · iexists _; iexact H11
    isplitl [HS0]
    · iexists _, _; isplitr; swap; · iexact HS0
      ipureintro; rfl
    isplitl [HS1]
    · iexists _; isplitr; · ipureintro; exact harg14.read_unread _
      iexact HS1
    iexists _; isplitr; · ipureintro; exact harg15.read_unread _
    iexact HS2

end Cert.HeadIdeal.Gen

end
-- ==== Proof.LogitsBlock.lean ====
/- One 512 x 1280 block of logits as a function of the codes, a weight block, the row factors and the column scales:
   five products of 256 columns each, every one scaled by rows and columns. Here: the stores of a point's body write this
   block, piece by piece. -/
module

public import proofs.«01_k».proof.Proof.RunFirst
public import proofs.«01_k».proof.Proof.RunRest
public import Idealize.ShloMosaic.Lib.ValueLayout

@[expose] public section

set_option maxRecDepth 16384

noncomputable section

namespace Cert.HeadIdeal.Gen

open Idealize.ShloMosaic Idealize.ShloMosaic.TcCoe Idealize.ShloMosaic.Tactic

variable {F : FTy → Type} [FloatOps F]

/-- The columns `256 j` to `256 j + 255` of a weight block. -/
def weightPart (w : Vec F S5120x1280 .fp8e4m3) (j : Fin 5) : Vec F S5120x256 .fp8e4m3 :=
  fun z => w (ix2 (z 0) ⟨256 * j.val + (z 1).val, by have h : (z 1).val < 256 := (z 1).isLt; omega⟩)

/-- The product of the codes with those columns. -/
def accPart (xc : Vec F S512x5120 .fp8e4m3) (w : Vec F S5120x1280 .fp8e4m3) (j : Fin 5) : FVec F S512x256 .f32 :=
  matmul dot_S512x5120_S5120x256_S512x256_1_0_0_1_n_n none xc (weightPart w j) (constant S512x256 .f32 0x00000000#32)

/-- The block of logits. -/
def logitsBlock (xc : Vec F S512x5120 .fp8e4m3) (w : Vec F S5120x1280 .fp8e4m3) (xk : Vec F S512x128 .f32) (ws : Vec F S1x1280 .f32) :
    Vec F S512x1280 .f32 :=
  mulf
    (mulf
      (fun y : S512x1280.Idx => accPart xc w ⟨(y 1).val / 256, by have h : (y 1).val < 1280 := (y 1).isLt; omega⟩
        (ix2 (y 0) ⟨(y 1).val % 256, Nat.mod_lt _ (by decide)⟩))
      (fun y : S512x1280.Idx => xk (ix2 (y 0) ⟨(y 1).val % 128, Nat.mod_lt _ (by decide)⟩)))
    (fun y : S512x1280.Idx => ws (ix2 0 (y 1)))

/-- A load of a 32 x 128 box from one of the two slots, right after that slot was stored: the payload's values there. -/
theorem acc_load {arg13 : Memref sig .tc .vmem S2x512x256 .f32} (s r c : ℕ)
    (inb1 : ∀ a : Fin 3, (![s, 0, 0] : Fin 3 → ℕ) a + S1x512x256.size a ≤ S2x512x256.size a)
    (inb2 : ∀ a : Fin 3, (![s, 0, 0] : Fin 3 → ℕ) a + (![1, 512, 256] : Fin 3 → ℕ) a ≤ S2x512x256.size a)
    (P : FVec F S512x256 .f32) (hsc : S512x256.ShapeCasts S1x512x256)
    (L : List (View.Piece (Elt F) S2x512x256 .f32))
    (inb3 : ∀ a : Fin 2, (![r, c] : Fin 2 → ℕ) a + (![32, 128] : Fin 2 → ℕ) a ≤ S512x256.size a)
    (p1 : (![1, 512, 256] : Fin 3 → ℕ) 0 = 1) (p2 : ∀ i : Fin 2, (![1, 512, 256] : Fin 3 → ℕ) i.succ = (![512, 256] : Fin 2 → ℕ) i)
    (p3 : ∀ a, (Rect.unit (s := S2x512x256) ![s, 0, 0] ![1, 512, 256] inb2).stride a = 1)
    (hR : (Rect.unit (s := S512x256) ![r, c] ![32, 128] inb3).toLoadRect.shape.numel
        = ((Rect.unit (s := S2x512x256) ![s, 0, 0] ![1, 512, 256] inb2).withinL
            ((Rect.unit (s := S512x256) ![r, c] ![32, 128] inb3).toLoadRect.consLift ![1, 512, 256] p1 p2) p3).shape.numel)
    (x : S32x128.Idx) (k : S512x256.Idx) (h0 : (k 0).val = r + (x 0).val) (h1 : (k 1).val = c + (x 1).val) :
    (LoadRect.valAlong hR (arg13.view.readCov (Val := Elt F)
        ((⟨Rect.unit (s := S2x512x256) ![s, 0, 0] S1x512x256.size inb1, shapeCast S1x512x256 P hsc⟩ : View.Piece (Elt F) S2x512x256 .f32) :: L)
        ((Rect.unit (s := S2x512x256) ![s, 0, 0] ![1, 512, 256] inb2).withinL
          ((Rect.unit (s := S512x256) ![r, c] ![32, 128] inb3).toLoadRect.consLift ![1, 512, 256] p1 p2) p3)) x : F .f32)
      = P k := by
  rw [LoadRect.valAlong, View.readCov_eq_canon']
  have hx : ((Rect.unit (s := S2x512x256) ![s, 0, 0] ![1, 512, 256] inb2).withinL
          ((Rect.unit (s := S512x256) ![r, c] ![32, 128] inb3).toLoadRect.consLift ![1, 512, 256] p1 p2) p3).idx
            (Shape.reshapeEquiv hR x)
      = (Rect.unit (s := S2x512x256) ![s, 0, 0] S1x512x256.size inb1).emb (ix3 0 (k 0) (k 1)) := by
    have e : Shape.reshapeEquiv hR x = Fin.cons ⟨0, Nat.one_pos⟩ x := Shape.reshapeEquiv_cons_one _ x
    rw [e]
    funext a
    apply Fin.ext
    rw [Rect.emb_apply]
    fin_cases a
    · simp [LoadRect.idx, Rect.withinL, LoadRect.consLift, Rect.toLoadRect, Rect.unit]
    · show 0 + r + 1 * (x 0).val = 0 + 1 * (k 0).val
      omega
    · show 0 + c + 1 * (x 1).val = 0 + 1 * (k 1).val
      omega
  beta_reduce
  rw [hx, View.canon_cons_emb]
  exact (ValueIdx.shapeCast_ab_1ab_apply P hsc 0 (k 0) (k 1)).trans
    (congrArg P (funext fun a => by fin_cases a <;> rfl))

/-- The same load when the other slot has been stored since. -/
theorem acc_load_past {arg13 : Memref sig .tc .vmem S2x512x256 .f32} (s s' r c : ℕ) (hs : s ≠ s')
    (inb1 : ∀ a : Fin 3, (![s, 0, 0] : Fin 3 → ℕ) a + S1x512x256.size a ≤ S2x512x256.size a)
    (inb1' : ∀ a : Fin 3, (![s', 0, 0] : Fin 3 → ℕ) a + S1x512x256.size a ≤ S2x512x256.size a)
    (inb2 : ∀ a : Fin 3, (![s, 0, 0] : Fin 3 → ℕ) a + (![1, 512, 256] : Fin 3 → ℕ) a ≤ S2x512x256.size a)
    (P : FVec F S512x256 .f32) (hsc : S512x256.ShapeCasts S1x512x256) (P' : FVec F S1x512x256 .f32)
    (L : List (View.Piece (Elt F) S2x512x256 .f32))
    (inb3 : ∀ a : Fin 2, (![r, c] : Fin 2 → ℕ) a + (![32, 128] : Fin 2 → ℕ) a ≤ S512x256.size a)
    (p1 : (![1, 512, 256] : Fin 3 → ℕ) 0 = 1) (p2 : ∀ i : Fin 2, (![1, 512, 256] : Fin 3 → ℕ) i.succ = (![512, 256] : Fin 2 → ℕ) i)
    (p3 : ∀ a, (Rect.unit (s := S2x512x256) ![s, 0, 0] ![1, 512, 256] inb2).stride a = 1)
    (hR : (Rect.unit (s := S512x256) ![r, c] ![32, 128] inb3).toLoadRect.shape.numel
        = ((Rect.unit (s := S2x512x256) ![s, 0, 0] ![1, 512, 256] inb2).withinL
            ((Rect.unit (s := S512x256) ![r, c] ![32, 128] inb3).toLoadRect.consLift ![1, 512, 256] p1 p2) p3).shape.numel)
    (x : S32x128.Idx) (k : S512x256.Idx) (h0 : (k 0).val = r + (x 0).val) (h1 : (k 1).val = c + (x 1).val) :
    (LoadRect.valAlong hR (arg13.view.readCov (Val := Elt F)
        ((⟨Rect.unit (s := S2x512x256) ![s', 0, 0] S1x512x256.size inb1', P'⟩ : View.Piece (Elt F) S2x512x256 .f32)
          :: (⟨Rect.unit (s := S2x512x256) ![s, 0, 0] S1x512x256.size inb1, shapeCast S1x512x256 P hsc⟩ : View.Piece (Elt F) S2x512x256 .f32) :: L)
        ((Rect.unit (s := S2x512x256) ![s, 0, 0] ![1, 512, 256] inb2).withinL
          ((Rect.unit (s := S512x256) ![r, c] ![32, 128] inb3).toLoadRect.consLift ![1, 512, 256] p1 p2) p3)) x : F .f32)
      = P k := by
  rw [← acc_load (arg13 := arg13) s r c inb1 inb2 P hsc L inb3 p1 p2 p3 hR x k h0 h1]
  simp only [LoadRect.valAlong, View.readCov_eq_canon']
  refine View.canon_cons_of_not_mem _ _ fun hm => ?_
  have h := (Rect.mem_set_unit (s := S2x512x256) (inb := inb1')).mp hm 0
  have e : Shape.reshapeEquiv hR x = Fin.cons ⟨0, Nat.one_pos⟩ x := Shape.reshapeEquiv_cons_one _ x
  rw [e] at h
  have h1 : s' ≤ s + 0 + 1 * 0 ∧ s + 0 + 1 * 0 < s' + 1 := h
  omega

/-- The product a point's body forms from its loads is the product of the codes with the columns loaded. -/
theorem accPart_of_loads
    {arg3 : Memref sig .tc .vmem S5120x1280 .fp8e4m3} {harg3 : arg3.IsWhole}
    {arg7 : Memref sig .tc .vmem S512x5120 .fp8e4m3} {harg7 : arg7.IsWhole}
    {xc : Vec F S512x5120 .fp8e4m3} {w : Vec F S5120x1280 .fp8e4m3}
    (wc : ℕ) (j : Fin 5) (hwc : wc = 256 * j.val)
    (inb7 : ∀ a : Fin 2, (![0, 0] : Fin 2 → ℕ) a + S512x5120.size a ≤ S512x5120.size a)
    (hsc7 : S512x5120.ShapeCasts S512x5120)
    (inb8 : ∀ a : Fin 2, (![0, wc] : Fin 2 → ℕ) a + S5120x256.size a ≤ S5120x1280.size a)
    : (matmul dot_S512x5120_S5120x256_S512x256_1_0_0_1_n_n none (shapeCast S512x5120 (View.readAt (Elt F) arg7.view (Rect.unit (s := S512x5120) ![0, 0] S512x5120.size inb7).toLoadRect (harg7.unread xc)) hsc7)
          (View.readAt (Elt F) arg3.view (Rect.unit (s := S5120x1280) ![0, wc] S5120x256.size inb8).toLoadRect (harg3.unread w)) (constant S512x256 .f32 0x00000000#32))
      = accPart xc w j := by
  subst hwc
  unfold accPart
  have h1 : View.readAt (Elt F) arg7.view (Rect.unit (s := S512x5120) ![0, 0] S512x5120.size inb7).toLoadRect (harg7.unread xc) = xc := by
    rw [View.readAt_eq_ld, harg7.read_unread]
    exact View.ld_unit_zero (S := S512x5120) (funext fun a => by fin_cases a <;> rfl) _ _
  have h2 : View.readAt (Elt F) arg3.view (Rect.unit (s := S5120x1280) ![0, 256 * j.val] S5120x256.size inb8).toLoadRect (harg3.unread w)
      = weightPart w j := by
    funext z
    rw [View.readAt_eq_ld, harg3.read_unread, View.ld_apply]
    unfold weightPart
    congr 1
    funext a
    fin_cases a <;> apply Fin.ext <;> simp [LoadRect.idx, Rect.toLoadRect, Rect.unit, ix2]
  exact congrArg₂ (fun (A : FVec F S512x5120 .fp8e4m3) (W : FVec F S5120x256 .fp8e4m3) =>
    matmul dot_S512x5120_S5120x256_S512x256_1_0_0_1_n_n none A W (constant S512x256 .f32 0x00000000#32))
    ((shapeCast_self _ _).trans h1) h2

/-- A 32 x 128 box of products, scaled by the rows and the columns it lies in, is that box of the block of logits. -/
theorem box_eq
    {arg4 : Memref sig .tc .vmem S1x1280 .f32} {harg4 : arg4.IsWhole}

    {arg14 : Memref sig .tc .vmem S512x128 .f32} {harg14 : arg14.IsWhole}
    {xc : Vec F S512x5120 .fp8e4m3} {w : Vec F S5120x1280 .fp8e4m3} {xk : Vec F S512x128 .f32} {ws : Vec F S1x1280 .f32}
    (r gc c : ℕ) (j : Fin 5) (hg : gc = 256 * j.val + c) (hc : c = 0 ∨ c = 128)
    (acc : FVec F S32x128 .f32)
    (inb5 : ∀ a : Fin 2, (![r, 0] : Fin 2 → ℕ) a + S32x128.size a ≤ S512x128.size a)
    (inb6 : ∀ a : Fin 2, (![0, gc] : Fin 2 → ℕ) a + S1x128.size a ≤ S1x1280.size a)
    (inb9 : ∀ a : Fin 2, (![r, gc] : Fin 2 → ℕ) a + S32x128.size a ≤ S512x1280.size a)
    (hsc4 : S1x128.ShapeCasts S1x128) (hb : S1x128.Broadcasts S32x128)
    (x : S32x128.Idx)
    (hacc : ∀ k : S512x256.Idx, (k 0).val = r + (x 0).val → (k 1).val = c + (x 1).val → acc x = accPart xc w j k) :
    mulf (mulf acc
        (View.readAt (Elt F) arg14.view (Rect.unit (s := S512x128) ![r, 0] S32x128.size inb5).toLoadRect (harg14.unread xk)))
      (broadcastTo S32x128 (shapeCast S1x128
        (View.readAt (Elt F) arg4.view (Rect.unit (s := S1x1280) ![0, gc] S1x128.size inb6).toLoadRect (harg4.unread ws)) hsc4) hb) x
      = logitsBlock xc w xk ws ((Rect.unit (s := S512x1280) ![r, gc] S32x128.size inb9).emb x) := by
  have hx1 : (x 1).val < 128 := (x 1).isLt
  have hx0 : (x 0).val < 32 := (x 0).isLt
  have e0 : ((Rect.unit (s := S512x1280) ![r, gc] S32x128.size inb9).emb x 0).val = r + (x 0).val := by
    rw [Rect.emb_apply]; show r + 1 * (x 0).val = _; omega
  have e1 : ((Rect.unit (s := S512x1280) ![r, gc] S32x128.size inb9).emb x 1).val = gc + (x 1).val := by
    rw [Rect.emb_apply]; show gc + 1 * (x 1).val = _; omega
  generalize (Rect.unit (s := S512x1280) ![r, gc] S32x128.size inb9).emb x = y at e0 e1
  have hj : (⟨(y 1).val / 256, by have h : (y 1).val < 1280 := (y 1).isLt; omega⟩ : Fin 5) = j := Fin.ext (by show (y 1).val / 256 = j.val; omega)
  unfold logitsBlock
  simp only [mulf]
  congr 1
  · congr 1
    · rw [hj]
      exact hacc _ e0 (by show (y 1).val % 256 = _; omega)
    · rw [View.readAt_eq_ld, harg14.read_unread, View.ld_apply]
      congr 1
      funext a
      apply Fin.ext
      fin_cases a
      · show r + 1 * (x 0).val = (y 0).val
        omega
      · show 0 + 1 * (x 1).val = (y 1).val % 128
        omega
  · refine (broadcastTo_apply _ hb x (ix2 0 (x 1)) (fun a => by fin_cases a <;> rfl)).trans ?_
    refine (congrFun (shapeCast_self _ hsc4) _).trans ?_
    rw [View.readAt_eq_ld, harg4.read_unread, View.ld_apply]
    congr 1
    funext a
    apply Fin.ext
    fin_cases a
    · rfl
    · show gc + 1 * (x 1).val = (y 1).val
      omega

/-- The box read from the slot stored last. -/
theorem box_last
    {arg3 : Memref sig .tc .vmem S5120x1280 .fp8e4m3} {harg3 : arg3.IsWhole} {arg4 : Memref sig .tc .vmem S1x1280 .f32} {harg4 : arg4.IsWhole}
    {arg7 : Memref sig .tc .vmem S512x5120 .fp8e4m3} {harg7 : arg7.IsWhole} {arg13 : Memref sig .tc .vmem S2x512x256 .f32}
    {arg14 : Memref sig .tc .vmem S512x128 .f32} {harg14 : arg14.IsWhole}
    {xc : Vec F S512x5120 .fp8e4m3} {w : Vec F S5120x1280 .fp8e4m3} {xk : Vec F S512x128 .f32} {ws : Vec F S1x1280 .f32}
    (s r c wc gc : ℕ) (j : Fin 5) (hwc : wc = 256 * j.val) (hg : gc = wc + c) (hc : c = 0 ∨ c = 128)
    (inb1 : ∀ a : Fin 3, (![s, 0, 0] : Fin 3 → ℕ) a + S1x512x256.size a ≤ S2x512x256.size a)
    (inb2 : ∀ a : Fin 3, (![s, 0, 0] : Fin 3 → ℕ) a + (![1, 512, 256] : Fin 3 → ℕ) a ≤ S2x512x256.size a)
    (hsc : S512x256.ShapeCasts S1x512x256) (L : List (View.Piece (Elt F) S2x512x256 .f32))
    (inb7 : ∀ a : Fin 2, (![0, 0] : Fin 2 → ℕ) a + S512x5120.size a ≤ S512x5120.size a)
    (hsc7 : S512x5120.ShapeCasts S512x5120)
    (inb8 : ∀ a : Fin 2, (![0, wc] : Fin 2 → ℕ) a + S5120x256.size a ≤ S5120x1280.size a)
    (inb3 : ∀ a : Fin 2, (![r, c] : Fin 2 → ℕ) a + (![32, 128] : Fin 2 → ℕ) a ≤ S512x256.size a)
    (p1 : (![1, 512, 256] : Fin 3 → ℕ) 0 = 1) (p2 : ∀ i : Fin 2, (![1, 512, 256] : Fin 3 → ℕ) i.succ = (![512, 256] : Fin 2 → ℕ) i)
    (p3 : ∀ a, (Rect.unit (s := S2x512x256) ![s, 0, 0] ![1, 512, 256] inb2).stride a = 1)
    (hR : (Rect.unit (s := S512x256) ![r, c] ![32, 128] inb3).toLoadRect.shape.numel
        = ((Rect.unit (s := S2x512x256) ![s, 0, 0] ![1, 512, 256] inb2).withinL
            ((Rect.unit (s := S512x256) ![r, c] ![32, 128] inb3).toLoadRect.consLift ![1, 512, 256] p1 p2) p3).shape.numel)
    (inb5 : ∀ a : Fin 2, (![r, 0] : Fin 2 → ℕ) a + S32x128.size a ≤ S512x128.size a)
    (inb6 : ∀ a : Fin 2, (![0, gc] : Fin 2 → ℕ) a + S1x128.size a ≤ S1x1280.size a)
    (inb9 : ∀ a : Fin 2, (![r, gc] : Fin 2 → ℕ) a + S32x128.size a ≤ S512x1280.size a)
    (hsc4 : S1x128.ShapeCasts S1x128) (hb : S1x128.Broadcasts S32x128)
    (st : FVec F S512x5120 .fp8e4m3 → FVec F S5120x256 .fp8e4m3 → FVec F S1x512x256 .f32)
    (hst : ∀ A W, st A W = shapeCast S1x512x256 (matmul dot_S512x5120_S5120x256_S512x256_1_0_0_1_n_n none
      (shapeCast S512x5120 A hsc7) W (constant S512x256 .f32 0x00000000#32)) hsc)
    (pay : FVec F S32x128 .f32 → FVec F S32x128 .f32 → FVec F S1x128 .f32 → FVec F S32x128 .f32)
    (hpay : ∀ X A W, pay X A W = mulf (mulf A X) (broadcastTo S32x128 (shapeCast S1x128 W hsc4) hb))
    (x : S32x128.Idx) :
    pay (View.readAt (Elt F) arg14.view (Rect.unit (s := S512x128) ![r, 0] S32x128.size inb5).toLoadRect (harg14.unread xk))
      (LoadRect.valAlong hR (arg13.view.readCov (Val := Elt F)
        ((⟨Rect.unit (s := S2x512x256) ![s, 0, 0] S1x512x256.size inb1, st (View.readAt (Elt F) arg7.view (Rect.unit (s := S512x5120) ![0, 0] S512x5120.size inb7).toLoadRect (harg7.unread xc)) (View.readAt (Elt F) arg3.view (Rect.unit (s := S5120x1280) ![0, wc] S5120x256.size inb8).toLoadRect (harg3.unread w))⟩ : View.Piece (Elt F) S2x512x256 .f32) :: L)
        ((Rect.unit (s := S2x512x256) ![s, 0, 0] ![1, 512, 256] inb2).withinL
          ((Rect.unit (s := S512x256) ![r, c] ![32, 128] inb3).toLoadRect.consLift ![1, 512, 256] p1 p2) p3)) : FVec F S32x128 .f32)
      (View.readAt (Elt F) arg4.view (Rect.unit (s := S1x1280) ![0, gc] S1x128.size inb6).toLoadRect (harg4.unread ws)) x
      = logitsBlock xc w xk ws ((Rect.unit (s := S512x1280) ![r, gc] S32x128.size inb9).emb x) := by
  rw [hst, hpay]
  exact box_eq (arg14 := arg14) (harg14 := harg14) (arg4 := arg4) (harg4 := harg4) r gc c j (by omega) hc _ inb5 inb6 inb9 hsc4 hb x fun k h0 h1 =>
    (acc_load s r c inb1 inb2 _ hsc L inb3 p1 p2 p3 hR x k h0 h1).trans
      (congrFun (accPart_of_loads wc j hwc inb7 hsc7 inb8) k)

/-- The box read from the other slot. -/
theorem box_past
    {arg3 : Memref sig .tc .vmem S5120x1280 .fp8e4m3} {harg3 : arg3.IsWhole} {arg4 : Memref sig .tc .vmem S1x1280 .f32} {harg4 : arg4.IsWhole}
    {arg7 : Memref sig .tc .vmem S512x5120 .fp8e4m3} {harg7 : arg7.IsWhole} {arg13 : Memref sig .tc .vmem S2x512x256 .f32}
    {arg14 : Memref sig .tc .vmem S512x128 .f32} {harg14 : arg14.IsWhole}
    {xc : Vec F S512x5120 .fp8e4m3} {w : Vec F S5120x1280 .fp8e4m3} {xk : Vec F S512x128 .f32} {ws : Vec F S1x1280 .f32}
    (s s' r c wc gc : ℕ) (j : Fin 5) (hs : s ≠ s') (hwc : wc = 256 * j.val) (hg : gc = wc + c) (hc : c = 0 ∨ c = 128)
    (inb1 : ∀ a : Fin 3, (![s, 0, 0] : Fin 3 → ℕ) a + S1x512x256.size a ≤ S2x512x256.size a)
    (inb1' : ∀ a : Fin 3, (![s', 0, 0] : Fin 3 → ℕ) a + S1x512x256.size a ≤ S2x512x256.size a)
    (inb2 : ∀ a : Fin 3, (![s, 0, 0] : Fin 3 → ℕ) a + (![1, 512, 256] : Fin 3 → ℕ) a ≤ S2x512x256.size a)
    (hsc : S512x256.ShapeCasts S1x512x256) (P' : FVec F S1x512x256 .f32) (L : List (View.Piece (Elt F) S2x512x256 .f32))
    (inb7 : ∀ a : Fin 2, (![0, 0] : Fin 2 → ℕ) a + S512x5120.size a ≤ S512x5120.size a)
    (hsc7 : S512x5120.ShapeCasts S512x5120)
    (inb8 : ∀ a : Fin 2, (![0, wc] : Fin 2 → ℕ) a + S5120x256.size a ≤ S5120x1280.size a)
    (inb3 : ∀ a : Fin 2, (![r, c] : Fin 2 → ℕ) a + (![32, 128] : Fin 2 → ℕ) a ≤ S512x256.size a)
    (p1 : (![1, 512, 256] : Fin 3 → ℕ) 0 = 1) (p2 : ∀ i : Fin 2, (![1, 512, 256] : Fin 3 → ℕ) i.succ = (![512, 256] : Fin 2 → ℕ) i)
    (p3 : ∀ a, (Rect.unit (s := S2x512x256) ![s, 0, 0] ![1, 512, 256] inb2).stride a = 1)
    (hR : (Rect.unit (s := S512x256) ![r, c] ![32, 128] inb3).toLoadRect.shape.numel
        = ((Rect.unit (s := S2x512x256) ![s, 0, 0] ![1, 512, 256] inb2).withinL
            ((Rect.unit (s := S512x256) ![r, c] ![32, 128] inb3).toLoadRect.consLift ![1, 512, 256] p1 p2) p3).shape.numel)
    (inb5 : ∀ a : Fin 2, (![r, 0] : Fin 2 → ℕ) a + S32x128.size a ≤ S512x128.size a)
    (inb6 : ∀ a : Fin 2, (![0, gc] : Fin 2 → ℕ) a + S1x128.size a ≤ S1x1280.size a)
    (inb9 : ∀ a : Fin 2, (![r, gc] : Fin 2 → ℕ) a + S32x128.size a ≤ S512x1280.size a)
    (hsc4 : S1x128.ShapeCasts S1x128) (hb : S1x128.Broadcasts S32x128)
    (st : FVec F S512x5120 .fp8e4m3 → FVec F S5120x256 .fp8e4m3 → FVec F S1x512x256 .f32)
    (hst : ∀ A W, st A W = shapeCast S1x512x256 (matmul dot_S512x5120_S5120x256_S512x256_1_0_0_1_n_n none
      (shapeCast S512x5120 A hsc7) W (constant S512x256 .f32 0x00000000#32)) hsc)
    (pay : FVec F S32x128 .f32 → FVec F S32x128 .f32 → FVec F S1x128 .f32 → FVec F S32x128 .f32)
    (hpay : ∀ X A W, pay X A W = mulf (mulf A X) (broadcastTo S32x128 (shapeCast S1x128 W hsc4) hb))
    (x : S32x128.Idx) :
    pay (View.readAt (Elt F) arg14.view (Rect.unit (s := S512x128) ![r, 0] S32x128.size inb5).toLoadRect (harg14.unread xk))
      (LoadRect.valAlong hR (arg13.view.readCov (Val := Elt F)
        ((⟨Rect.unit (s := S2x512x256) ![s', 0, 0] S1x512x256.size inb1', P'⟩ : View.Piece (Elt F) S2x512x256 .f32) :: (⟨Rect.unit (s := S2x512x256) ![s, 0, 0] S1x512x256.size inb1, st (View.readAt (Elt F) arg7.view (Rect.unit (s := S512x5120) ![0, 0] S512x5120.size inb7).toLoadRect (harg7.unread xc)) (View.readAt (Elt F) arg3.view (Rect.unit (s := S5120x1280) ![0, wc] S5120x256.size inb8).toLoadRect (harg3.unread w))⟩ : View.Piece (Elt F) S2x512x256 .f32) :: L)
        ((Rect.unit (s := S2x512x256) ![s, 0, 0] ![1, 512, 256] inb2).withinL
          ((Rect.unit (s := S512x256) ![r, c] ![32, 128] inb3).toLoadRect.consLift ![1, 512, 256] p1 p2) p3)) : FVec F S32x128 .f32)
      (View.readAt (Elt F) arg4.view (Rect.unit (s := S1x1280) ![0, gc] S1x128.size inb6).toLoadRect (harg4.unread ws)) x
      = logitsBlock xc w xk ws ((Rect.unit (s := S512x1280) ![r, gc] S32x128.size inb9).emb x) := by
  rw [hst, hpay]
  exact box_eq (arg14 := arg14) (harg14 := harg14) (arg4 := arg4) (harg4 := harg4) r gc c j (by omega) hc _ inb5 inb6 inb9 hsc4 hb x fun k h0 h1 =>
    (acc_load_past s s' r c hs inb1 inb1' inb2 _ hsc P' L inb3 p1 p2 p3 hR x k h0 h1).trans
      (congrFun (accPart_of_loads wc j hwc inb7 hsc7 inb8) k)

end Cert.HeadIdeal.Gen

end
-- ==== Proof.PiecesFirst.lean ====
/- The 160 stores of a point's body into the block of logits are the boxes of that block. -/
module

public import proofs.«01_k».proof.Proof.LogitsBlock

@[expose] public section

set_option maxRecDepth 16384

noncomputable section

namespace Cert.HeadIdeal.Gen

open Idealize.ShloMosaic Idealize.ShloMosaic.TcCoe Idealize.ShloMosaic.Tactic

variable {F : FTy → Type} [FloatOps F]

/-- Each store of the first point is the box of the block of logits at its place. -/
theorem runFirst_pieces (c : Dev nD) (i : grid0.Coords) (arg1 : Memref sig .tc .vmem S512x5120 .bf16) (harg1 : arg1.IsWhole) (arg2 : Memref sig .tc .vmem S512x1 .f32) (harg2 : arg2.IsWhole) (arg3 : Memref sig .tc .vmem S5120x1280 .fp8e4m3) (harg3 : arg3.IsWhole) (arg4 : Memref sig .tc .vmem S1x1280 .f32) (harg4 : arg4.IsWhole) (arg5 : Memref sig .tc .vmem S512x1280 .fp8e4m3) (harg5 : arg5.IsWhole) (arg6 : Memref sig .tc .vmem S512x1280 .f32) (harg6 : arg6.IsWhole) (arg7 : Memref sig .tc .vmem S512x5120 .fp8e4m3) (harg7 : arg7.IsWhole) (arg8 : Memref sig .tc .vmem S512x1 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S2x512x256 .f32) (harg13 : arg13.IsWhole) (arg14 : Memref sig .tc .vmem S512x128 .f32) (harg14 : arg14.IsWhole) (arg15 : Memref sig .tc .vmem S512x128 .f32) (harg15 : arg15.IsWhole) (hc0 : cond0_0 i)
    (x0 : Vec F S512x5120 .bf16) (x1 : Vec F S512x1 .f32) (x2 : Vec F S5120x1280 .fp8e4m3) (x3 : Vec F S1x1280 .f32) (x4 : Vec F S512x1280 .fp8e4m3) :
    View.PiecesOf (logitsBlock (codes (arg1.view.read (Elt F) (harg1.unread x0))) x2 (rowFactors (arg1.view.read (Elt F) (harg1.unread x0))) x3) (runFirst (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1 := by
  unfold runFirst
  dsimp only
  sl_unfold_run_names
  refine ⟨fun x => by
    dsimp only
    first
      | (refine @box_last F _ arg3 harg3 arg4 harg4 arg7 harg7 arg13 arg14 harg14 _ x2 _ x3 0 480 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 480 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 480 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 480 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 448 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 448 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 448 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 448 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 416 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 416 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 416 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 416 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 384 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 384 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 384 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 384 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 352 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 352 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 352 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 352 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 320 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 320 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 320 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 320 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 288 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 288 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 288 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 288 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 256 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 256 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 256 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 256 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 224 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 224 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 224 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 224 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 192 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 192 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 192 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 192 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 160 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 160 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 160 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 160 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 128 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 128 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 128 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 128 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 96 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 96 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 96 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 96 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 64 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 64 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 64 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 64 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 32 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 32 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 32 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 32 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 0 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 0 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 0 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 0 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 480 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 480 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 480 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 480 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 448 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 448 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 448 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 448 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 416 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 416 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 416 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 416 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 384 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 384 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 384 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 384 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 352 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 352 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 352 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 352 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 320 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 320 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 320 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 320 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 288 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 288 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 288 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 288 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 256 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 256 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 256 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 256 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 224 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 224 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 224 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 224 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 192 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 192 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 192 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 192 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 160 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 160 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 160 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 160 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 128 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 128 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 128 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 128 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 96 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 96 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 96 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 96 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 64 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 64 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 64 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 64 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 32 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 32 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 32 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 32 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 0 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 0 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 0 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 0 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 480 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 480 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 480 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 480 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 448 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 448 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 448 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ (fun X A W => k0_pay513 (k0_pay512 X A) W) ?_ x <;> intros <;> rfl)
      | (refine @box_past F _ arg3 harg3 arg4 harg4 arg7 harg7 arg13 arg14 harg14 _ x2 _ x3 0 1 448 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ (fun X A W => k0_pay513 (k0_pay512 X A) W) ?_ x <;> intros <;> rfl), ?_⟩
  refine ⟨fun x => by
    dsimp only
    first
      | (refine @box_last F _ arg3 harg3 arg4 harg4 arg7 harg7 arg13 arg14 harg14 _ x2 _ x3 0 416 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 416 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 416 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 416 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 384 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 384 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 384 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 384 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 352 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ (fun X A W => k0_pay481 (k0_pay480 X A) W) ?_ x <;> intros <;> rfl)
      | (refine @box_past F _ arg3 harg3 arg4 harg4 arg7 harg7 arg13 arg14 harg14 _ x2 _ x3 0 1 352 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ (fun X A W => k0_pay481 (k0_pay480 X A) W) ?_ x <;> intros <;> rfl), ?_⟩
  refine ⟨fun x => by
    dsimp only
    first
      | (refine @box_last F _ arg3 harg3 arg4 harg4 arg7 harg7 arg13 arg14 harg14 _ x2 _ x3 0 352 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 352 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 320 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 320 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 320 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 320 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 288 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 288 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 288 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ (fun X A W => k0_pay457 (k0_pay456 X A) W) ?_ x <;> intros <;> rfl)
      | (refine @box_past F _ arg3 harg3 arg4 harg4 arg7 harg7 arg13 arg14 harg14 _ x2 _ x3 0 1 288 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ (fun X A W => k0_pay457 (k0_pay456 X A) W) ?_ x <;> intros <;> rfl), ?_⟩
  refine ⟨fun x => by
    dsimp only
    first
      | (refine @box_last F _ arg3 harg3 arg4 harg4 arg7 harg7 arg13 arg14 harg14 _ x2 _ x3 0 256 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 256 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 256 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 256 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 224 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 224 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 224 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 224 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 192 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ (fun X A W => k0_pay425 (k0_pay424 X A) W) ?_ x <;> intros <;> rfl)
      | (refine @box_past F _ arg3 harg3 arg4 harg4 arg7 harg7 arg13 arg14 harg14 _ x2 _ x3 0 1 192 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ (fun X A W => k0_pay425 (k0_pay424 X A) W) ?_ x <;> intros <;> rfl), ?_⟩
  refine ⟨fun x => by
    dsimp only
    first
      | (refine @box_last F _ arg3 harg3 arg4 harg4 arg7 harg7 arg13 arg14 harg14 _ x2 _ x3 0 192 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 192 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 160 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 160 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 160 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 160 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 128 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 128 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 128 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ (fun X A W => k0_pay401 (k0_pay400 X A) W) ?_ x <;> intros <;> rfl)
      | (refine @box_past F _ arg3 harg3 arg4 harg4 arg7 harg7 arg13 arg14 harg14 _ x2 _ x3 0 1 128 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ (fun X A W => k0_pay401 (k0_pay400 X A) W) ?_ x <;> intros <;> rfl), ?_⟩
  refine ⟨fun x => by
    dsimp only
    first
      | (refine @box_last F _ arg3 harg3 arg4 harg4 arg7 harg7 arg13 arg14 harg14 _ x2 _ x3 0 96 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 96 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 96 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 96 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 64 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 64 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 64 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 64 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 32 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ (fun X A W => k0_pay369 (k0_pay368 X A) W) ?_ x <;> intros <;> rfl)
      | (refine @box_past F _ arg3 harg3 arg4 harg4 arg7 harg7 arg13 arg14 harg14 _ x2 _ x3 0 1 32 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ (fun X A W => k0_pay369 (k0_pay368 X A) W) ?_ x <;> intros <;> rfl), ?_⟩
  refine ⟨fun x => by
    dsimp only
    first
      | (refine @box_last F _ arg3 harg3 arg4 harg4 arg7 harg7 arg13 arg14 harg14 _ x2 _ x3 0 32 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 32 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 0 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 0 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 0 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 0 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 480 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 480 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 480 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 480 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 448 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 448 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 448 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 448 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 416 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 416 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 416 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 416 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 384 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 384 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 384 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 384 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 352 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 352 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 352 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 352 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 320 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 320 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 320 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 320 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 288 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 288 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 288 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 288 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 256 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 256 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 256 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 256 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 224 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 224 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 224 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 224 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 192 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 192 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 192 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 192 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 160 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 160 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 160 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 160 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 128 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 128 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 128 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 128 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 96 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 96 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 96 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 96 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 64 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 64 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 64 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 64 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 32 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 32 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 32 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 32 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 0 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 0 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 0 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 0 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 480 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 480 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 480 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 480 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 448 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 448 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 448 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 448 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 416 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 416 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 416 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 416 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 384 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 384 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 384 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 384 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 352 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 352 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 352 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 352 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 320 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 320 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 320 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 320 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 288 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 288 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 288 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 288 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 256 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 256 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 256 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 256 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 224 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 224 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 224 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 224 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 192 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 192 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 192 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 192 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 160 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 160 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 160 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 160 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 128 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 128 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 128 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 128 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 96 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 96 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 96 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 96 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 64 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 64 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 64 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 64 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 32 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 32 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 32 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 32 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 0 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 0 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 0 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 0 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  trivial

/-- The stores of the first point reach every place of the block of logits. -/
theorem runFirst_cover (c : Dev nD) (i : grid0.Coords) (arg1 : Memref sig .tc .vmem S512x5120 .bf16) (harg1 : arg1.IsWhole) (arg2 : Memref sig .tc .vmem S512x1 .f32) (harg2 : arg2.IsWhole) (arg3 : Memref sig .tc .vmem S5120x1280 .fp8e4m3) (harg3 : arg3.IsWhole) (arg4 : Memref sig .tc .vmem S1x1280 .f32) (harg4 : arg4.IsWhole) (arg5 : Memref sig .tc .vmem S512x1280 .fp8e4m3) (harg5 : arg5.IsWhole) (arg6 : Memref sig .tc .vmem S512x1280 .f32) (harg6 : arg6.IsWhole) (arg7 : Memref sig .tc .vmem S512x5120 .fp8e4m3) (harg7 : arg7.IsWhole) (arg8 : Memref sig .tc .vmem S512x1 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S2x512x256 .f32) (harg13 : arg13.IsWhole) (arg14 : Memref sig .tc .vmem S512x128 .f32) (harg14 : arg14.IsWhole) (arg15 : Memref sig .tc .vmem S512x128 .f32) (harg15 : arg15.IsWhole) (hc0 : cond0_0 i)
    (x0 : Vec F S512x5120 .bf16) (x1 : Vec F S512x1 .f32) (x2 : Vec F S5120x1280 .fp8e4m3) (x3 : Vec F S1x1280 .f32) (x4 : Vec F S512x1280 .fp8e4m3) (y : S512x1280.Idx) :
    ∃ p ∈ (runFirst (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1, y ∈ p.1.set := by
  unfold runFirst
  dsimp only
  exact View.cover_of_tiled_head _ _ _ (by rfl) y

/-- Read back, the stores of the first point are the block of logits. -/
theorem runFirst_logits (c : Dev nD) (i : grid0.Coords) (arg1 : Memref sig .tc .vmem S512x5120 .bf16) (harg1 : arg1.IsWhole) (arg2 : Memref sig .tc .vmem S512x1 .f32) (harg2 : arg2.IsWhole) (arg3 : Memref sig .tc .vmem S5120x1280 .fp8e4m3) (harg3 : arg3.IsWhole) (arg4 : Memref sig .tc .vmem S1x1280 .f32) (harg4 : arg4.IsWhole) (arg5 : Memref sig .tc .vmem S512x1280 .fp8e4m3) (harg5 : arg5.IsWhole) (arg6 : Memref sig .tc .vmem S512x1280 .f32) (harg6 : arg6.IsWhole) (arg7 : Memref sig .tc .vmem S512x5120 .fp8e4m3) (harg7 : arg7.IsWhole) (arg8 : Memref sig .tc .vmem S512x1 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S2x512x256 .f32) (harg13 : arg13.IsWhole) (arg14 : Memref sig .tc .vmem S512x128 .f32) (harg14 : arg14.IsWhole) (arg15 : Memref sig .tc .vmem S512x128 .f32) (harg15 : arg15.IsWhole) (hc0 : cond0_0 i)
    (x0 : Vec F S512x5120 .bf16) (x1 : Vec F S512x1 .f32) (x2 : Vec F S5120x1280 .fp8e4m3) (x3 : Vec F S1x1280 .f32) (x4 : Vec F S512x1280 .fp8e4m3) (f : arg6.view.ty.Contents (Elt F)) :
    arg6.view.read (Elt F) (arg6.view.writes (Elt F) f (runFirst (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1)
      = logitsBlock (codes x0) x2 (rowFactors x0) x3 := by
  rw [View.read_writes_eq_canon _ _ _ (runFirst_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4)]
  funext y
  have h := View.canon_append_of_piecesOf _ [] _ (runFirst_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4) y (runFirst_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 y)
  rw [List.append_nil] at h
  rw [harg1.read_unread] at h
  exact h

end Cert.HeadIdeal.Gen
end
-- ==== Proof.PiecesRest.lean ====
/- The 160 stores of a point's body into the block of logits are the boxes of that block. -/
module

public import proofs.«01_k».proof.Proof.LogitsBlock

@[expose] public section

set_option maxRecDepth 16384

noncomputable section

namespace Cert.HeadIdeal.Gen

open Idealize.ShloMosaic Idealize.ShloMosaic.TcCoe Idealize.ShloMosaic.Tactic

variable {F : FTy → Type} [FloatOps F]

/-- Each store of a later point is the box of the block of logits at its place. -/
theorem runRest_pieces (c : Dev nD) (i : grid0.Coords) (arg1 : Memref sig .tc .vmem S512x5120 .bf16) (harg1 : arg1.IsWhole) (arg2 : Memref sig .tc .vmem S512x1 .f32) (harg2 : arg2.IsWhole) (arg3 : Memref sig .tc .vmem S5120x1280 .fp8e4m3) (harg3 : arg3.IsWhole) (arg4 : Memref sig .tc .vmem S1x1280 .f32) (harg4 : arg4.IsWhole) (arg5 : Memref sig .tc .vmem S512x1280 .fp8e4m3) (harg5 : arg5.IsWhole) (arg6 : Memref sig .tc .vmem S512x1280 .f32) (harg6 : arg6.IsWhole) (arg7 : Memref sig .tc .vmem S512x5120 .fp8e4m3) (harg7 : arg7.IsWhole) (arg8 : Memref sig .tc .vmem S512x1 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S2x512x256 .f32) (harg13 : arg13.IsWhole) (arg14 : Memref sig .tc .vmem S512x128 .f32) (harg14 : arg14.IsWhole) (arg15 : Memref sig .tc .vmem S512x128 .f32) (harg15 : arg15.IsWhole) (hc0 : ¬cond0_0 i)
    (x0 : Vec F S512x5120 .bf16) (x1 : Vec F S512x1 .f32) (x2 : Vec F S5120x1280 .fp8e4m3) (x3 : Vec F S1x1280 .f32) (x4 : Vec F S512x1280 .fp8e4m3)
    (x6 : Vec F S512x5120 .fp8e4m3) (x7 : Vec F S512x1 .f32) (x8 x9 x10 x11 k1 k2 : Vec F S512x128 .f32) :
    View.PiecesOf (logitsBlock x6 x2 k1 x3) (runRest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x6 x7 x8 x9 x10 x11 k1 k2).1 := by
  unfold runRest
  dsimp only
  sl_unfold_run_names
  refine ⟨fun x => by
    dsimp only
    first
      | (refine @box_last F _ arg3 harg3 arg4 harg4 arg7 harg7 arg13 arg14 harg14 _ x2 _ x3 0 480 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 480 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 480 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 480 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 448 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 448 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 448 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 448 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 416 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 416 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 416 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 416 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 384 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 384 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 384 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 384 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 352 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 352 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 352 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 352 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 320 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 320 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 320 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 320 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 288 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 288 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 288 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 288 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 256 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 256 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 256 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 256 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 224 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 224 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 224 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 224 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 192 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 192 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 192 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 192 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 160 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 160 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 160 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 160 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 128 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 128 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 128 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 128 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 96 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 96 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 96 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 96 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 64 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 64 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 64 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 64 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 32 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 32 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 32 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 32 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 0 128 1024 1152 4 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 0 128 1024 1152 4 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 0 0 1024 1024 4 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 0 0 1024 1024 4 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 480 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 480 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 480 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 480 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 448 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 448 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 448 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 448 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 416 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 416 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 416 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 416 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 384 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 384 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 384 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 384 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 352 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 352 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 352 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 352 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 320 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 320 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 320 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 320 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 288 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 288 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 288 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 288 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 256 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 256 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 256 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 256 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 224 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 224 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 224 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 224 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 192 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 192 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 192 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 192 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 160 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 160 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 160 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 160 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 128 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 128 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 128 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 128 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 96 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 96 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 96 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 96 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 64 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 64 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 64 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 64 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 32 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 32 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 32 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 32 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 0 128 768 896 3 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 0 128 768 896 3 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 0 0 768 768 3 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 0 0 768 768 3 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 480 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 480 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 480 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 480 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 448 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 448 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 448 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ (fun X A W => k0_pay513 (k0_pay512 X A) W) ?_ x <;> intros <;> rfl)
      | (refine @box_past F _ arg3 harg3 arg4 harg4 arg7 harg7 arg13 arg14 harg14 _ x2 _ x3 0 1 448 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ (fun X A W => k0_pay513 (k0_pay512 X A) W) ?_ x <;> intros <;> rfl), ?_⟩
  refine ⟨fun x => by
    dsimp only
    first
      | (refine @box_last F _ arg3 harg3 arg4 harg4 arg7 harg7 arg13 arg14 harg14 _ x2 _ x3 0 416 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 416 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 416 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 416 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 384 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 384 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 384 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 384 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 352 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ (fun X A W => k0_pay481 (k0_pay480 X A) W) ?_ x <;> intros <;> rfl)
      | (refine @box_past F _ arg3 harg3 arg4 harg4 arg7 harg7 arg13 arg14 harg14 _ x2 _ x3 0 1 352 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ (fun X A W => k0_pay481 (k0_pay480 X A) W) ?_ x <;> intros <;> rfl), ?_⟩
  refine ⟨fun x => by
    dsimp only
    first
      | (refine @box_last F _ arg3 harg3 arg4 harg4 arg7 harg7 arg13 arg14 harg14 _ x2 _ x3 0 352 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 352 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 320 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 320 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 320 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 320 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 288 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 288 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 288 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ (fun X A W => k0_pay457 (k0_pay456 X A) W) ?_ x <;> intros <;> rfl)
      | (refine @box_past F _ arg3 harg3 arg4 harg4 arg7 harg7 arg13 arg14 harg14 _ x2 _ x3 0 1 288 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ (fun X A W => k0_pay457 (k0_pay456 X A) W) ?_ x <;> intros <;> rfl), ?_⟩
  refine ⟨fun x => by
    dsimp only
    first
      | (refine @box_last F _ arg3 harg3 arg4 harg4 arg7 harg7 arg13 arg14 harg14 _ x2 _ x3 0 256 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 256 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 256 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 256 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 224 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 224 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 224 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 224 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 192 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ (fun X A W => k0_pay425 (k0_pay424 X A) W) ?_ x <;> intros <;> rfl)
      | (refine @box_past F _ arg3 harg3 arg4 harg4 arg7 harg7 arg13 arg14 harg14 _ x2 _ x3 0 1 192 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ (fun X A W => k0_pay425 (k0_pay424 X A) W) ?_ x <;> intros <;> rfl), ?_⟩
  refine ⟨fun x => by
    dsimp only
    first
      | (refine @box_last F _ arg3 harg3 arg4 harg4 arg7 harg7 arg13 arg14 harg14 _ x2 _ x3 0 192 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 192 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 160 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 160 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 160 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 160 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 128 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 128 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 128 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ (fun X A W => k0_pay401 (k0_pay400 X A) W) ?_ x <;> intros <;> rfl)
      | (refine @box_past F _ arg3 harg3 arg4 harg4 arg7 harg7 arg13 arg14 harg14 _ x2 _ x3 0 1 128 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ (fun X A W => k0_pay401 (k0_pay400 X A) W) ?_ x <;> intros <;> rfl), ?_⟩
  refine ⟨fun x => by
    dsimp only
    first
      | (refine @box_last F _ arg3 harg3 arg4 harg4 arg7 harg7 arg13 arg14 harg14 _ x2 _ x3 0 96 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 96 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 96 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 96 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 64 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 64 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 64 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 64 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 32 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ (fun X A W => k0_pay369 (k0_pay368 X A) W) ?_ x <;> intros <;> rfl)
      | (refine @box_past F _ arg3 harg3 arg4 harg4 arg7 harg7 arg13 arg14 harg14 _ x2 _ x3 0 1 32 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ (fun X A W => k0_pay369 (k0_pay368 X A) W) ?_ x <;> intros <;> rfl), ?_⟩
  refine ⟨fun x => by
    dsimp only
    first
      | (refine @box_last F _ arg3 harg3 arg4 harg4 arg7 harg7 arg13 arg14 harg14 _ x2 _ x3 0 32 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 32 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 0 128 512 640 2 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 0 128 512 640 2 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 0 0 512 512 2 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 0 0 512 512 2 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 480 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 480 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 480 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 480 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 448 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 448 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 448 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 448 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 416 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 416 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 416 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 416 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 384 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 384 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 384 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 384 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 352 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 352 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 352 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 352 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 320 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 320 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 320 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 320 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 288 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 288 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 288 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 288 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 256 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 256 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 256 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 256 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 224 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 224 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 224 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 224 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 192 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 192 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 192 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 192 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 160 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 160 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 160 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 160 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 128 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 128 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 128 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 128 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 96 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 96 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 96 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 96 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 64 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 64 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 64 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 64 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 32 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 32 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 32 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 32 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 0 128 256 384 1 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 0 128 256 384 1 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 1 0 0 256 256 1 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 1 0 0 0 256 256 1 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 480 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 480 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 480 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 480 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 448 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 448 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 448 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 448 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 416 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 416 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 416 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 416 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 384 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 384 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 384 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 384 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 352 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 352 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 352 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 352 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 320 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 320 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 320 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 320 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 288 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 288 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 288 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 288 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 256 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 256 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 256 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 256 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 224 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 224 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 224 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 224 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 192 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 192 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 192 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 192 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 160 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 160 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 160 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 160 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 128 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 128 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 128 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 128 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 96 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 96 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 96 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 96 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 64 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 64 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 64 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 64 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 32 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 32 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 32 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 32 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 0 128 0 128 0 rfl rfl (.inr rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 0 128 0 128 0 (by decide) rfl rfl (.inr rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  refine ⟨fun x => by
    dsimp only
    first
      | (refine @box_last F _ arg3 harg3 arg4 harg4 arg7 harg7 arg13 arg14 harg14 _ x2 _ x3 0 0 0 0 0 0 rfl rfl (.inl rfl) _ _ shapeCasts_S512x256_S1x512x256 _ _ shapeCasts_S512x5120_S512x5120 _ _ _ _ _ _ _ _ _ shapeCasts_S1x128_S1x128 broadcasts_S1x128_S32x128 _ ?_ _ ?_ x <;> intros <;> rfl)
      | (refine @box_past F _ arg3 harg3 arg4 harg4 arg7 harg7 arg13 arg14 harg14 _ x2 _ x3 0 1 0 0 0 0 0 (by decide) rfl rfl (.inl rfl) _ _ _ shapeCasts_S512x256_S1x512x256 _ _ _ shapeCasts_S512x5120_S512x5120 _ _ _ _ _ _ _ _ _ shapeCasts_S1x128_S1x128 broadcasts_S1x128_S32x128 _ ?_ _ ?_ x <;> intros <;> rfl), ?_⟩
  trivial

/-- The stores of a later point reach every place of the block of logits. -/
theorem runRest_cover (c : Dev nD) (i : grid0.Coords) (arg1 : Memref sig .tc .vmem S512x5120 .bf16) (harg1 : arg1.IsWhole) (arg2 : Memref sig .tc .vmem S512x1 .f32) (harg2 : arg2.IsWhole) (arg3 : Memref sig .tc .vmem S5120x1280 .fp8e4m3) (harg3 : arg3.IsWhole) (arg4 : Memref sig .tc .vmem S1x1280 .f32) (harg4 : arg4.IsWhole) (arg5 : Memref sig .tc .vmem S512x1280 .fp8e4m3) (harg5 : arg5.IsWhole) (arg6 : Memref sig .tc .vmem S512x1280 .f32) (harg6 : arg6.IsWhole) (arg7 : Memref sig .tc .vmem S512x5120 .fp8e4m3) (harg7 : arg7.IsWhole) (arg8 : Memref sig .tc .vmem S512x1 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S2x512x256 .f32) (harg13 : arg13.IsWhole) (arg14 : Memref sig .tc .vmem S512x128 .f32) (harg14 : arg14.IsWhole) (arg15 : Memref sig .tc .vmem S512x128 .f32) (harg15 : arg15.IsWhole) (hc0 : ¬cond0_0 i)
    (x0 : Vec F S512x5120 .bf16) (x1 : Vec F S512x1 .f32) (x2 : Vec F S5120x1280 .fp8e4m3) (x3 : Vec F S1x1280 .f32) (x4 : Vec F S512x1280 .fp8e4m3)
    (x6 : Vec F S512x5120 .fp8e4m3) (x7 : Vec F S512x1 .f32) (x8 x9 x10 x11 k1 k2 : Vec F S512x128 .f32) (y : S512x1280.Idx) :
    ∃ p ∈ (runRest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x6 x7 x8 x9 x10 x11 k1 k2).1, y ∈ p.1.set := by
  unfold runRest
  dsimp only
  exact View.cover_of_tiled_head _ _ _ (by rfl) y

/-- Read back, the stores of a later point are the block of logits. -/
theorem runRest_logits (c : Dev nD) (i : grid0.Coords) (arg1 : Memref sig .tc .vmem S512x5120 .bf16) (harg1 : arg1.IsWhole) (arg2 : Memref sig .tc .vmem S512x1 .f32) (harg2 : arg2.IsWhole) (arg3 : Memref sig .tc .vmem S5120x1280 .fp8e4m3) (harg3 : arg3.IsWhole) (arg4 : Memref sig .tc .vmem S1x1280 .f32) (harg4 : arg4.IsWhole) (arg5 : Memref sig .tc .vmem S512x1280 .fp8e4m3) (harg5 : arg5.IsWhole) (arg6 : Memref sig .tc .vmem S512x1280 .f32) (harg6 : arg6.IsWhole) (arg7 : Memref sig .tc .vmem S512x5120 .fp8e4m3) (harg7 : arg7.IsWhole) (arg8 : Memref sig .tc .vmem S512x1 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S2x512x256 .f32) (harg13 : arg13.IsWhole) (arg14 : Memref sig .tc .vmem S512x128 .f32) (harg14 : arg14.IsWhole) (arg15 : Memref sig .tc .vmem S512x128 .f32) (harg15 : arg15.IsWhole) (hc0 : ¬cond0_0 i)
    (x0 : Vec F S512x5120 .bf16) (x1 : Vec F S512x1 .f32) (x2 : Vec F S5120x1280 .fp8e4m3) (x3 : Vec F S1x1280 .f32) (x4 : Vec F S512x1280 .fp8e4m3)
    (x6 : Vec F S512x5120 .fp8e4m3) (x7 : Vec F S512x1 .f32) (x8 x9 x10 x11 k1 k2 : Vec F S512x128 .f32) (f : arg6.view.ty.Contents (Elt F)) :
    arg6.view.read (Elt F) (arg6.view.writes (Elt F) f (runRest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x6 x7 x8 x9 x10 x11 k1 k2).1)
      = logitsBlock x6 x2 k1 x3 := by
  rw [View.read_writes_eq_canon _ _ _ (runRest_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x6 x7 x8 x9 x10 x11 k1 k2)]
  funext y
  have h := View.canon_append_of_piecesOf _ [] _ (runRest_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x6 x7 x8 x9 x10 x11 k1 k2) y (runRest_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x6 x7 x8 x9 x10 x11 k1 k2 y)
  rw [List.append_nil] at h
  exact h

end Cert.HeadIdeal.Gen
end
-- ==== Proof.HeadRun.lean ====
/- The whole run of the kernel: what every output block holds after every point, the row factors carried in a scratch
   buffer from the first point on, the body obligation, the launch, and the frame of the arguments. The four outputs of
   running maxima and sums are not named here. -/
module

public import proofs.«01_k».proof.Proof.PiecesFirst
public import proofs.«01_k».proof.Proof.PiecesRest
public import Idealize.ShloMosaic.Lib.Claim
public import Idealize.ShloMosaic.Lib.Pipeline.TableIdle
public import Idealize.ShloMosaic.Lib.Pipeline.ValueKit

@[expose] public section

-- membership in a rectangle of production extents (`View.cover_of_tiled`): the elaborator's structural look
-- recurses once per coordinate of the long axes
set_option maxRecDepth 16384

noncomputable section

namespace Cert.HeadIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The outputs nothing is said of: running maxima and sums. -/
def forgets0 : Fin 12 → Bool := fun w => w.val == 8 || w.val == 9 || w.val == 10 || w.val == 11

/-- The input rows, as the kernel's first window stages them. -/
def rowsIn (c : Dev nD) : Vec F S512x5120 .bf16 := V m c (Pipeline.arrRef spec0 0)

theorem index0_0 : ∀ t : Fin cfg0.N, win0_0.index t = ![0, 0] := (by decide +kernel : ∀ t : Fin grid0.N, _)

/-- The first window stages the whole array at every point. -/
theorem iblk0_eq (c : Dev nD) (t : Fin cfg0.N) : iblk m c 0 t = rowsIn m c := by
  unfold rowsIn
  funext y
  blk_simp [iblk]
  refine congrArg (V m c main_v0) ?_
  blk_ext [index0_0]

/-- The block of logits the body leaves at a point. -/
def logitsAt (c : Dev nD) (t : Fin cfg0.N) : Vec F S512x1280 .f32 :=
  logitsBlock (codes (rowsIn m c)) (iblk m c 2 t) (rowFactors (rowsIn m c)) (iblk m c 3 t)

/-- The scratch between the points: the row factors are there from the first point on; the rest is arbitrary. -/
def carried (c : Dev nD) : sProp 𝕄 :=
  iprop(iprop((∃ d, owns (c : Thread nD τ) scM0_0 fullShare d) ∗ owns (c : Thread nD τ) scM0_1 fullShare (rowFactors (rowsIn m c)) ∗ (∃ d, owns (c : Thread nD τ) scM0_2 fullShare d)) ∗ (∃ r, prngReg c r))

/-- The scratch before point `t`. -/
def inv (c : Dev nD) (t : ℕ) : sProp 𝕄 := if t = 0 then Pipeline.ΦA spec0 c else carried m c

theorem inv_zero (c : Dev nD) (t : ℕ) (h : t = 0) : (inv m c t : sProp 𝕄) = Pipeline.ΦA spec0 c := if_pos h
theorem inv_pos (c : Dev nD) (t : ℕ) (h : ¬ t = 0) : (inv m c t : sProp 𝕄) = carried m c := if_neg h

/-- The proof data: the inputs' blocks stay; the logits, codes and scales are named; the rest is not. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => logitsAt m c t
    | ⟨6, _⟩ => codes (rowsIn m c)
    | ⟨7, _⟩ => scales (rowsIn m c)
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ t := inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = logitsAt m c t := by dsimp only [dats]
theorem after0_6 (c : Dev nD) (t : Fin cfg0.N) : (dats m 0 c).after 6 t = codes (rowsIn m c) := by dsimp only [dats]
theorem after0_7 (c : Dev nD) (t : Fin cfg0.N) : (dats m 0 c).after 7 t = scales (rowsIn m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The last window in use is never idle. -/
theorem liveAt0_5 (t : Fin cfg0.N) : cfg0.idle 5 (cfg0.grid.coords t) = false := rfl

/-- Output 6 is stored at the first point only, -/
theorem idleAt0_6 (t : Fin cfg0.N) (h : ¬ t.val % 25 = 0) : cfg0.idle 6 (cfg0.grid.coords t) = true := by
  show (!(k0_cond1 (grid0.coords t) == 1#1)) = true
  rw [beq_eq_false_iff_ne.mpr (fun e => h ((hcond0_0 t).mp e))]; rfl
theorem liveAt0_6 (t : Fin cfg0.N) (h : t.val % 25 = 0) : cfg0.idle 6 (cfg0.grid.coords t) = false := by
  show (!(k0_cond1 (grid0.coords t) == 1#1)) = false
  rw [beq_iff_eq.mpr ((hcond0_0 t).mpr h)]; rfl
/-- so from the second point on its buffer holds what that point stored. -/
theorem stored0_6 : ∀ n : ℕ, n < 24 → cfg0.fresh 6 (n + 1) = false
  | 0, _ => by
    rw [cfg0.fresh_succ 6 0 (lt_of_lt_of_eq (by decide : 0 < 25) (show 25 = cfg0.N from N_0.symm)), liveAt0_6 _ (by rfl), Bool.false_and, Bool.or_false]
    exact eq_false_of_ne_true fun e => absurd ((flush0_6 _).mp e) (by show ¬ (0 % 25 = 24); decide)
  | n + 1, h => by
    have hn : n + 1 < cfg0.N := lt_of_lt_of_eq (by omega : n + 1 < 25) (show 25 = cfg0.N from N_0.symm)
    rw [cfg0.fresh_succ 6 (n + 1) hn, stored0_6 n (by omega), Bool.and_false, Bool.or_false]
    exact eq_false_of_ne_true fun e => absurd ((flush0_6 _).mp e) (by show ¬ ((n + 1) % 25 = 24); omega)
theorem before0_6 (c : Dev nD) (t : Fin cfg0.N) (h : ¬ t.val % 25 = 0) (d) : (dats m 0 c).before 6 t d = codes (rowsIn m c) := by
  have hN : t.val < 25 := lt_of_lt_of_eq t.isLt (show cfg0.N = 25 from N_0)
  rw [(dats m 0 c).before_out_traj 6 rfl (fun _ _ => rfl) (fun t _ _ _ => by rw [after0_6, after0_6]) t.val t rfl d,
    if_neg (by rw [show t.val = t.val - 1 + 1 by omega, stored0_6 _ (by omega)]; exact Bool.false_ne_true), after0_6]
/-- What the body leaves of it, at any point: the same. -/
theorem leaves0_6 (c : Dev nD) (t : Fin cfg0.N) :
    owns (c : Thread nD τ) (ms0_6 t) fullShare (codes (rowsIn m c)) ⊢ ((dats m 0 c).leavesExact 6 t : sProp 𝕄) := by
  unfold Dat.leavesExact
  by_cases h : t.val % 25 = 0
  · rw [liveAt0_6 t h]
    dsimp only
    rw [after0_6]
  · rw [idleAt0_6 t h]
    cases (cfg0.win 6).flush t
    · dsimp only
      simp only [before0_6 m c t h]
      iintro H
      iexists fun _ => Classical.arbitrary _
      iexact H
    · dsimp only
      rw [after0_6]

/-- Output 7 is stored at the first point only, -/
theorem idleAt0_7 (t : Fin cfg0.N) (h : ¬ t.val % 25 = 0) : cfg0.idle 7 (cfg0.grid.coords t) = true := by
  show (!(k0_cond1 (grid0.coords t) == 1#1)) = true
  rw [beq_eq_false_iff_ne.mpr (fun e => h ((hcond0_0 t).mp e))]; rfl
theorem liveAt0_7 (t : Fin cfg0.N) (h : t.val % 25 = 0) : cfg0.idle 7 (cfg0.grid.coords t) = false := by
  show (!(k0_cond1 (grid0.coords t) == 1#1)) = false
  rw [beq_iff_eq.mpr ((hcond0_0 t).mpr h)]; rfl
/-- so from the second point on its buffer holds what that point stored. -/
theorem stored0_7 : ∀ n : ℕ, n < 24 → cfg0.fresh 7 (n + 1) = false
  | 0, _ => by
    rw [cfg0.fresh_succ 7 0 (lt_of_lt_of_eq (by decide : 0 < 25) (show 25 = cfg0.N from N_0.symm)), liveAt0_7 _ (by rfl), Bool.false_and, Bool.or_false]
    exact eq_false_of_ne_true fun e => absurd ((flush0_7 _).mp e) (by show ¬ (0 % 25 = 24); decide)
  | n + 1, h => by
    have hn : n + 1 < cfg0.N := lt_of_lt_of_eq (by omega : n + 1 < 25) (show 25 = cfg0.N from N_0.symm)
    rw [cfg0.fresh_succ 7 (n + 1) hn, stored0_7 n (by omega), Bool.and_false, Bool.or_false]
    exact eq_false_of_ne_true fun e => absurd ((flush0_7 _).mp e) (by show ¬ ((n + 1) % 25 = 24); omega)
theorem before0_7 (c : Dev nD) (t : Fin cfg0.N) (h : ¬ t.val % 25 = 0) (d) : (dats m 0 c).before 7 t d = scales (rowsIn m c) := by
  have hN : t.val < 25 := lt_of_lt_of_eq t.isLt (show cfg0.N = 25 from N_0)
  rw [(dats m 0 c).before_out_traj 7 rfl (fun _ _ => rfl) (fun t _ _ _ => by rw [after0_7, after0_7]) t.val t rfl d,
    if_neg (by rw [show t.val = t.val - 1 + 1 by omega, stored0_7 _ (by omega)]; exact Bool.false_ne_true), after0_7]
/-- What the body leaves of it, at any point: the same. -/
theorem leaves0_7 (c : Dev nD) (t : Fin cfg0.N) :
    owns (c : Thread nD τ) (ms0_7 t) fullShare (scales (rowsIn m c)) ⊢ ((dats m 0 c).leavesExact 7 t : sProp 𝕄) := by
  unfold Dat.leavesExact
  by_cases h : t.val % 25 = 0
  · rw [liveAt0_7 t h]
    dsimp only
    rw [after0_7]
  · rw [idleAt0_7 t h]
    cases (cfg0.win 7).flush t
    · dsimp only
      simp only [before0_7 m c t h]
      iintro H
      iexists fun _ => Classical.arbitrary _
      iexact H
    · dsimp only
      rw [after0_7]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = carried m c from inv_pos m c _ (Nat.succ_ne_zero t.val)]
  have hN : t.val < 25 := lt_of_lt_of_eq t.isLt (show cfg0.N = 25 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  unfold logitsAt
  by_cases h0 : t.val % 25 = 0
  · rw [show (dats m 0 c).Φ t.castSucc = Pipeline.ΦA spec0 c from inv_zero m c _ (show t.val = 0 by omega), PhiA0_eq]
    unfold carried
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runFirst c (grid0.coords t) _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t)).2.2.2.2.property Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    iintro ⟨H0, H1, H2, H3, H4, H5, H6, H7, H8, H9, H10, H11, HS0, HS1, HS2⟩
    isplitl [HS0 HS1 HS2 Hg]
    · isplitl [HS0 HS1 HS2]
      · isplitl [HS0]
        · iexact HS0
        isplitl [HS1]
        · rw [iblk0_eq]; iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · icases H5 with ⟨%f5, H5⟩
      unfold owns
      iexists _; isplitr; swap; · iexact H5
      ipureintro; exact (runFirst_logits _ _ _ _ _ _ _ _ _ _ _ _ _ _ _ _ _ _ _ _ _ _ _ _ _ _ _ _ _ _ _ _ _ _ _ _ _ _ _).trans (by rw [iblk0_eq])
    isplitl [H6]; · iapply (leaves0_6 m c t); rw [iblk0_eq]; iexact H6
    isplitl [H7]; · iapply (leaves0_7 m c t); rw [iblk0_eq]; iexact H7
    isplitl [H8]
    · icases H8 with ⟨%f8, H8⟩
      unfold owns
      iexists _, _; isplitr; swap; · iexact H8
      ipureintro; rfl
    isplitl [H9]
    · icases H9 with ⟨%f9, H9⟩
      unfold owns
      iexists _, _; isplitr; swap; · iexact H9
      ipureintro; rfl
    isplitl [H10]
    · icases H10 with ⟨%f10, H10⟩
      unfold owns
      iexists _, _; isplitr; swap; · iexact H10
      ipureintro; rfl
    icases H11 with ⟨%f11, H11⟩
    unfold owns
    iexists _, _; isplitr; swap; · iexact H11
    ipureintro; rfl
  · rw [show (dats m 0 c).Φ t.castSucc = carried m c from inv_pos m c _ (show ¬ t.val = 0 by omega)]
    unfold carried
    simp only [before0_6 m c t h0, before0_7 m c t h0]
    iintro ⟨⟨⟨HS0, HS1, ⟨%k2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runRest c (grid0.coords t) _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (codes (rowsIn m c)) (scales (rowsIn m c)) d8 d9 d10 d11 (rowFactors (rowsIn m c)) k2).2.2.2.2.property Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    iintro ⟨H0, H1, H2, H3, H4, H5, H6, H7, H8, H9, H10, H11, HS0, HS1, HS2⟩
    isplitl [HS0 HS1 HS2 Hg]
    · isplitl [HS0 HS1 HS2]
      · isplitl [HS0]
        · iexact HS0
        isplitl [HS1]
        · iexact HS1
        iexists _; iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · icases H5 with ⟨%f5, H5⟩
      unfold owns
      iexists _; isplitr; swap; · iexact H5
      ipureintro; exact runRest_logits _ _ _ _ _ _ _ _ _ _ _ _ _ _ _ _ _ _ _ _ _ _ _ _ _ _ _ _ _ _ _ _ _ _ _ _ _ _ _ _ _ _ _ _ _ _ _
    isplitl [H6]; · iapply (leaves0_6 m c t); iexact H6
    isplitl [H7]; · iapply (leaves0_7 m c t); iexact H7
    isplitl [H8]
    · icases H8 with ⟨%f8, H8⟩
      unfold owns
      iexists _, _; isplitr; swap; · iexact H8
      ipureintro; rfl
    isplitl [H9]
    · icases H9 with ⟨%f9, H9⟩
      unfold owns
      iexists _, _; isplitr; swap; · iexact H9
      ipureintro; rfl
    isplitl [H10]
    · icases H10 with ⟨%f10, H10⟩
      unfold owns
      iexists _, _; isplitr; swap; · iexact H10
      ipureintro; rfl
    icases H11 with ⟨%f11, H11⟩
    unfold owns
    iexists _, _; isplitr; swap; · iexact H11
    ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- After the last point the scratch is given up. -/
theorem carried_forget (c : Dev nD) : (carried m c : sProp 𝕄) ⊢ Pipeline.ΦA spec0 c := by
  rw [PhiA0_eq]
  unfold carried
  iintro ⟨⟨HS0, HS1, HS2⟩, Hg⟩
  isplitl [HS0 HS1 HS2]
  · isplitl [HS0]
    · iexact HS0
    isplitl [HS1]
    · iexists _; iexact HS1
    iexact HS2
  iexact Hg

/-! ## The run and the frame -/

set_option backward.isDefEq.respectTransparency.types false in
/-- Every run ends, the arrays as the proof data say, every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hin := fun c => (show Pipeline.ΦA spec0 c ⊢ inv m c 0 from by rw [inv_zero m c 0 rfl]))
    (hout := fun c => (show inv m c cfg0.N ⊢ Pipeline.ΦA spec0 c from by
      rw [inv_pos m c cfg0.N (show ¬ cfg0.N = 0 from fun h => absurd ((show cfg0.N = 25 from N_0).symm.trans h) (by decide))]
      exact carried_forget m c))

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments after a run are the arguments before it. -/
theorem unchanged_of_post {r : PUnit × MemSt nD τ sig (Elt F)} (h : Pipeline.RDat.FramePost (cfgs 0) (fun c => (dats m 0 c).toRForget forgets0) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
      (Pipeline.RDat.FramePost.arr_in h c 2 rfl).trans ((A_eq m c 2).trans (V_main_arg1 m c)),
      ((h c).2 main_arg2 (Pipeline.mem_restRefs_of main_arg2 (by decide) (by decide))).trans (V_main_arg2 m c),
      (Pipeline.RDat.FramePost.arr_in h c 4 rfl).trans ((A_eq m c 4).trans (V_main_arg3 m c)),
      ((h c).2 main_arg4 (Pipeline.mem_restRefs_of main_arg4 (by decide) (by decide))).trans (V_main_arg4 m c)⟩

/-- The frame: every run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨unchanged_of_post m h.1, h.2⟩) (run_main_quiescent m ρ)

end Cert.HeadIdeal.Gen

end
-- ==== Proof.Exponent.lean ====
/- The exponent of the quantiser over the extended reals: counting the powers of two that are at most `a` gives one more
   than the floor of the binary logarithm of `a`, and shifting such an exponent into a float's exponent field gives that
   power of two. -/
module

public import Idealize.ShloMosaic.PureOps
public import Idealize.ShloMosaic.Lib.IdealHost
public import Mathlib.Analysis.SpecialFunctions.Log.Basic

@[expose] public section

noncomputable section

namespace Cert.Exponent

open Idealize.ShloMosaic

/-- The float whose exponent field is `k` and whose other fields are zero. -/
def fieldValue (k : ℕ) : EReal := Ideal.ofBits .f32 (BitVec.ofNat 32 k <<< 23)

/-- The fields of such a word. -/
theorem fields : ∀ k : Fin 256, (BitVec.ofNat 32 k.val <<< 23).extractLsb' 31 1 = 0#1
    ∧ ((BitVec.ofNat 32 k.val <<< 23).extractLsb' 23 8).toNat = k.val
    ∧ ((BitVec.ofNat 32 k.val <<< 23).extractLsb' 0 23).toNat = 0 := by decide +kernel

theorem fieldValue_zero : fieldValue 0 = 0 := by
  simp [fieldValue, Ideal.ofBits, Ideal.ieee]

theorem fieldValue_top : fieldValue 255 = ⊤ := by
  simp [fieldValue, Ideal.ofBits, Ideal.ieee]

/-- A positive normal word with a zero fraction is a power of two. -/
theorem ieee_pow (b : BitVec 32) (k : ℕ) (f1 : b.extractLsb' 31 1 = 0#1) (f2 : (b.extractLsb' 23 8).toNat = k)
    (f3 : (b.extractLsb' 0 23).toNat = 0) (h0 : k ≠ 0) (h : k ≠ 255) :
    Ideal.ieee 8 23 b = (((2 : ℝ) ^ ((k : ℤ) - 127) : ℝ) : EReal) := by
  have key : ((if (0#1 == 1#1) = true then (-1 : ℝ) else 1) * ((2 ^ 23 + 0 : ℕ) : ℝ) * (2 : ℝ) ^ ((k : ℤ) - (2 ^ (8 - 1) - 1) - (23 : ℕ)))
      = (2 : ℝ) ^ ((k : ℤ) - 127) := by
    rw [if_neg (by decide), one_mul, show ((2 ^ 23 + 0 : ℕ) : ℝ) = (2 : ℝ) ^ (23 : ℤ) by norm_num,
      ← zpow_add₀ (by norm_num : (2 : ℝ) ≠ 0)]
    congr 1
    norm_num
  rw [← key]
  unfold Ideal.ieee
  simp only [f2, f3]
  rw [if_neg (by simpa using h), if_neg h0, show 8 + 23 = 31 from rfl, f1]

/-- A power of two. -/
theorem fieldValue_pow (k : ℕ) (h0 : 0 < k) (h : k < 255) : fieldValue k = (((2 : ℝ) ^ ((k : ℤ) - 127) : ℝ) : EReal) :=
  ieee_pow _ k (fields ⟨k, by omega⟩).1 (fields ⟨k, by omega⟩).2.1 (fields ⟨k, by omega⟩).2.2 (by omega) (by omega)

/-- The exponent as the reference takes it. -/
def exponent (a : EReal) : EReal :=
  if a = 0 then Ideal.ofBits .f32 0x00000000#32
  else Ideal.liftRound Int.floor (Ideal.div (Ideal.log a) (Ideal.log (Ideal.ofBits .f32 0x40000000#32))) + Ideal.ofBits .f32 0x3F800000#32

/-- The number of the fields 0 .. 255 whose value is at most `a`. -/
def count (a : EReal) : EReal :=
  ∑ k : Fin 256, if fieldValue k.val ≤ a then Ideal.ofBits .f32 0x3F800000#32 else Ideal.ofBits .f32 0x00000000#32

/-- The exponent as the kernel takes it. -/
def exponentWord (a : EReal) : BitVec 32 := if a = 0 then 0#32 else Ideal.fptosi 32 (count a) - 127#32

/-- The range of the scaled maxima that have an exponent. -/
def InRange (a : EReal) : Prop := a = 0 ∨ (Ideal.ofBits .f32 0x00400000#32 ≤ a ∧ a < Ideal.ofBits .f32 0x7E800000#32)

theorem two_value : Ideal.ofBits .f32 0x40000000#32 = ((2 : ℝ) : EReal) := by
  have h := fieldValue_pow 128 (by decide) (by decide)
  simpa [fieldValue] using h

theorem high_value : Ideal.ofBits .f32 0x7E800000#32 = (((2 : ℝ) ^ (126 : ℤ) : ℝ) : EReal) := by
  have h := fieldValue_pow 253 (by decide) (by decide)
  simpa [fieldValue] using h

theorem low_value : Ideal.ofBits .f32 0x00400000#32 = (((2 : ℝ) ^ (-127 : ℤ) : ℝ) : EReal) := by
  have f1 : (0x00400000#32).extractLsb' 31 1 = 0#1 := by decide
  have f2 : ((0x00400000#32).extractLsb' 23 8).toNat = 0 := by decide
  have f3 : ((0x00400000#32).extractLsb' 0 23).toNat = 2 ^ 22 := by decide
  show Ideal.ieee 8 23 (0x00400000#32) = _
  unfold Ideal.ieee
  simp only [f2, f3]
  rw [if_neg (by decide), if_pos trivial, show 8 + 23 = 31 from rfl, f1]
  norm_num

/-- How many of 0 .. 255 are at most `M`. -/
theorem sum_indicator (M : ℕ) (h : M < 256) : (∑ k : Fin 256, if k.val ≤ M then (1 : EReal) else 0) = (((M + 1 : ℕ) : ℝ) : EReal) := by
  rw [Finset.sum_ite, Finset.sum_const_zero, add_zero, Finset.sum_const]
  have e : (Finset.univ.filter fun k : Fin 256 => k.val ≤ M).card = M + 1 := by
    rw [show (Finset.univ.filter fun k : Fin 256 => k.val ≤ M) = Finset.Iic (⟨M, h⟩ : Fin 256) from by
      ext k; simp [Fin.le_def]]
    exact Fin.card_Iic _
  rw [e]
  rw [nsmul_one]; rfl

/-- The floor of the binary logarithm. -/
def log2 (r : ℝ) : ℤ := ⌊Real.log r * (Real.log 2)⁻¹⌋

theorem pow_le_iff (r : ℝ) (hr : 0 < r) (n : ℤ) : (2 : ℝ) ^ n ≤ r ↔ n ≤ log2 r := by
  have l2 : 0 < Real.log 2 := Real.log_pos (by norm_num)
  rw [log2, Int.le_floor, ← div_eq_mul_inv, le_div_iff₀ l2, ← Real.log_zpow]
  exact (Real.log_le_log_iff (by positivity) hr).symm

theorem lt_pow_iff (r : ℝ) (hr : 0 < r) (n : ℤ) : r < (2 : ℝ) ^ n ↔ log2 r < n := by
  rw [← not_le, pow_le_iff r hr, not_le]

/-- A field's value is at most `r` when the field less 127 is at most the binary logarithm. -/
theorem fieldValue_le (r : ℝ) (h0 : (2 : ℝ) ^ (-127 : ℤ) ≤ r) (h1 : r < (2 : ℝ) ^ (126 : ℤ)) (k : Fin 256) :
    fieldValue k.val ≤ (r : EReal) ↔ (k.val : ℤ) ≤ log2 r + 127 := by
  have hr : 0 < r := lt_of_lt_of_le (by positivity) h0
  have l0 : -127 ≤ log2 r := (pow_le_iff r hr _).mp h0
  have l1 : log2 r < 126 := (lt_pow_iff r hr _).mp h1
  rcases Nat.eq_zero_or_pos k.val with e | e
  · rw [e, fieldValue_zero]
    exact ⟨fun _ => by push_cast; omega, fun _ => by exact_mod_cast hr.le⟩
  · by_cases e' : k.val = 255
    · rw [e', fieldValue_top]
      exact ⟨fun h => absurd (top_le_iff.mp h) (EReal.coe_ne_top r), fun h => by push_cast at h; omega⟩
    · rw [fieldValue_pow k.val e (by omega), EReal.coe_le_coe_iff]
      rw [pow_le_iff r hr]
      omega

theorem ofInt_sub (a b : ℤ) : BitVec.ofInt 32 (a - b) = BitVec.ofInt 32 a - BitVec.ofInt 32 b := by
  apply BitVec.eq_of_toInt_eq
  simp [BitVec.toInt_sub, BitVec.toInt_ofInt]

/-- A scaled maximum in range has one exponent, the kernel's word and the reference's number. -/
theorem exists_exponent (a : EReal) (h : InRange a) :
    ∃ n : ℤ, -126 ≤ n ∧ n ≤ 126 ∧ exponent a = ((n : ℝ) : EReal) ∧ exponentWord a = BitVec.ofInt 32 n := by
  rcases h with h | ⟨h0, h1⟩
  · refine ⟨0, by decide, by decide, ?_, ?_⟩
    · rw [exponent, if_pos h]; simp
    · rw [exponentWord, if_pos h]; rfl
  · rw [low_value] at h0
    rw [high_value] at h1
    induction a with
    | bot => exact absurd (le_bot_iff.mp h0) (EReal.coe_ne_bot _)
    | top => exact absurd h1 (not_lt_of_ge le_top)
    | coe r =>
      rw [EReal.coe_le_coe_iff] at h0
      rw [EReal.coe_lt_coe_iff] at h1
      have hr : 0 < r := lt_of_lt_of_le (by positivity) h0
      have l0 : -127 ≤ log2 r := (pow_le_iff r hr _).mp h0
      have l1 : log2 r < 126 := (lt_pow_iff r hr _).mp h1
      have hne : ¬ (r : EReal) = 0 := by exact_mod_cast hr.ne'
      refine ⟨log2 r + 1, by omega, by omega, ?_, ?_⟩
      · rw [exponent, if_neg hne, two_value, Ideal.ofBits_one_f32, Ideal.log_coe, Ideal.log_coe, if_neg (not_le.mpr hr),
          if_neg (by norm_num), Ideal.div, if_neg (by exact_mod_cast (Real.log_pos (by norm_num)).ne'),
          ← EReal.coe_inv, ← EReal.coe_mul]
        show (((⌊Real.log r * (Real.log 2)⁻¹⌋ : ℤ) : ℝ) : EReal) + 1 = _
        rw [show ⌊Real.log r * (Real.log 2)⁻¹⌋ = log2 r from rfl]
        push_cast
        rfl
      · obtain ⟨M, hM⟩ := Int.eq_ofNat_of_zero_le (show 0 ≤ log2 r + 127 by omega)
        have hc : count (r : EReal) = (((M + 1 : ℕ) : ℝ) : EReal) := by
          rw [← sum_indicator M (by omega), count]
          refine Finset.sum_congr rfl fun k _ => ?_
          rw [Ideal.ofBits_one_f32, Ideal.ofBits_zero_f32]
          refine if_congr ?_ rfl rfl
          rw [fieldValue_le r h0 h1, hM]
          exact Int.ofNat_le
        rw [exponentWord, if_neg hne, hc]
        have hf : Ideal.fptosi 32 ((((M + 1 : ℕ) : ℝ)) : EReal) = BitVec.ofInt 32 ((M + 1 : ℕ) : ℤ) := by
          unfold Ideal.fptosi
          congr 1
          show max _ (min _ (if (0 : ℝ) ≤ ((M + 1 : ℕ) : ℝ) then ⌊((M + 1 : ℕ) : ℝ)⌋ else _)) = _
          rw [if_pos (Nat.cast_nonneg _), Int.floor_natCast]
          norm_num
          omega
        rw [hf, show log2 r + 1 = ((M + 1 : ℕ) : ℤ) - 127 by push_cast; omega, ofInt_sub]
        rfl

/-- Shifting an exponent into the exponent field gives the power of two, -/
theorem pow_of_word (n : ℤ) (h0 : -126 ≤ n) (h1 : n ≤ 126) :
    Ideal.ofBits .f32 ((BitVec.ofInt 32 n + 127#32) <<< 23) = Ideal.exp2 ((n : ℝ) : EReal) := by
  obtain ⟨k, hk⟩ := Int.eq_ofNat_of_zero_le (show 0 ≤ n + 127 by omega)
  have e : BitVec.ofInt 32 n + 127#32 = BitVec.ofNat 32 k := by
    rw [show n = (k : ℤ) - 127 by omega, ofInt_sub]
    simp only [BitVec.ofInt_natCast]
    exact BitVec.sub_add_cancel _ _
  rw [e]
  have hp := fieldValue_pow k (by omega) (by omega)
  rw [fieldValue] at hp
  rw [hp]
  show _ = (((2 : ℝ) ^ (n : ℝ) : ℝ) : EReal)
  rw [Real.rpow_intCast]
  congr 2
  omega

/-- and so does the negated exponent. -/
theorem pow_of_neg_word (n : ℤ) (h0 : -126 ≤ n) (h1 : n ≤ 126) :
    Ideal.ofBits .f32 ((0#32 - BitVec.ofInt 32 n + 127#32) <<< 23) = Ideal.exp2 (0 - ((n : ℝ) : EReal)) := by
  have e : 0#32 - BitVec.ofInt 32 n = BitVec.ofInt 32 (-n) := by
    rw [show -n = 0 - n by omega, ofInt_sub]; rfl
  rw [e, pow_of_word (-n) (by omega) (by omega), zero_sub, ← EReal.coe_neg]
  push_cast
  rfl

end Cert.Exponent

end
-- ==== Proof.RowSpec.lean ====
/- What one row of the input quantises to, and one logit of it, over the extended reals: plain functions of the row, of the
   column of weights and of the column's scale. Both programs compute these. -/
module

public import proofs.«01_k».proof.Proof.Exponent
public import Idealize.ShloMosaic.Lib.Pointwise

@[expose] public section

noncomputable section

namespace Cert.Spec

open Idealize.ShloMosaic Cert.Exponent

/-- The greatest magnitude of a row, over 448. -/
def scaledMax (f : Fin 5120 → EReal) : EReal :=
  ((Finset.univ : Finset (Fin 5120)).fold max (Ideal.ofBits .f32 0xFF800000#32) fun k => max (f k) (-f k)) * Ideal.ofBits .f32 0x3B124925#32

/-- A row's scale: a power of two. -/
def scale (f : Fin 5120 → EReal) : EReal := Ideal.exp2 (exponent (scaledMax f))

/-- A row's codes: its elements over the scale, clamped to ±448. -/
def code (f : Fin 5120 → EReal) (k : Fin 5120) : EReal :=
  min (Ideal.ofBits .f32 0x43E00000#32) (max (Ideal.ofBits .f32 0xC3E00000#32)
    (f k * Ideal.exp2 (Ideal.ofBits .f32 0x00000000#32 - exponent (scaledMax f))))

/-- A logit in units of the base-two softmax: the codes times a column of weights, scaled. -/
def logit (f w : Fin 5120 → EReal) (s : EReal) : EReal :=
  (∑ k : Fin 5120, code f k * w k) * scale f * s * Ideal.ofBits .f32 0x4003E74F#32

/-! ## The whole arrays, of the arguments -/

/-- A row of the input as the argument holds it. -/
def argRow (x : (⟨3, ![512, 1, 5120]⟩ : Shape).Idx → EReal) (r : Fin 512) : Fin 5120 → EReal := fun k => x (ix3 r 0 k)

/-- All logits. -/
def logits (x : (⟨3, ![512, 1, 5120]⟩ : Shape).Idx → EReal) (w : (⟨2, ![5120, 32000]⟩ : Shape).Idx → EReal)
    (s : (⟨1, ![32000]⟩ : Shape).Idx → EReal) : (⟨2, ![512, 32000]⟩ : Shape).Idx → EReal :=
  fun y => logit (argRow x (y 0)) (fun k => w (ix2 k (y 1))) (s (ix1 (y 1)))

/-- All codes. -/
def codes (x : (⟨3, ![512, 1, 5120]⟩ : Shape).Idx → EReal) : (⟨2, ![512, 5120]⟩ : Shape).Idx → EReal :=
  fun y => code (argRow x (y 0)) (y 1)

/-- All scales. -/
def scales (x : (⟨3, ![512, 1, 5120]⟩ : Shape).Idx → EReal) : (⟨2, ![512, 1]⟩ : Shape).Idx → EReal :=
  fun y => scale (argRow x (y 0))

end Cert.Spec

end
-- ==== Proof.KernelRows.lean ====
/- The kernel's quantiser and its block of logits, index by index over the extended reals: on rows whose scaled maximum is
   in range they are the row functions of `RowSpec`. -/
module

public import proofs.«01_k».proof.Proof.Quantise
public import proofs.«01_k».proof.Proof.LogitsBlock
public import proofs.«01_k».proof.Proof.RowSpec
public import Idealize.ShloMosaic.Lib.Pointwise

@[expose] public section

noncomputable section

namespace Cert.HeadIdeal.Gen

open Idealize.ShloMosaic Idealize.SL.Sem
open Cert.Exponent
open Cert.Spec (scaledMax scale code logit)

/-! ## The payloads of the quantiser -/

theorem shli_23 (x : BitVec 32) : IntOp.shli ArithUnit.vector x 23#32 = x <<< 23 := by
  unfold IntOp.shli
  rw [if_pos (by decide)]
  rfl

theorem pay5_apply (v : Vec Ideal S32x5120 .bf16) (r : Fin 32) :
    k0_pay5 v (ix2 r 0) = exponentWord (scaledMax fun k => v (ix2 r k)) := by
  unfold k0_pay5 k0_pay4
  pointwise
  simp only [shli_23]
  unfold exponentWord Exponent.count
  rw [Ideal.ofBits_one_f32, Ideal.ofBits_zero_f32]
  rfl

theorem pay6_apply (v : Vec Ideal S32x5120 .bf16) (r : Fin 32) (k : Fin 5120) :
    k0_pay6 v (ix2 r k) = min (Ideal.ofBits .f32 0x43E00000#32) (max (Ideal.ofBits .f32 0xC3E00000#32)
      (v (ix2 r k) * Ideal.ofBits .f32 ((0#32 - k0_pay5 v (ix2 r 0) + 127#32) <<< 23))) := by
  unfold k0_pay6 k0_pay4
  pointwise
  simp only [shli_23]
  rfl

theorem pay7_apply (e : IVec S32x1 32) (r : Fin 32) :
    k0_pay7 (F := Ideal) e (ix2 r 0) = Ideal.ofBits .f32 ((e (ix2 r 0) + 127#32) <<< 23) := by
  unfold k0_pay7
  pointwise
  simp only [shli_23]
  rfl

theorem pay8_apply (e : IVec S32x1 32) (r : Fin 32) (k : Fin 128) :
    k0_pay8 (F := Ideal) e (ix2 r k) = Ideal.ofBits .f32 ((e (ix2 r 0) + 127#32) <<< 23) * Ideal.ofBits .f32 0x4003E74F#32 := by
  unfold k0_pay8 k0_pay7
  pointwise
  simp only [shli_23]
  rfl

/-! ## The row functions -/

/-- A row of the input. -/
def row (x : Vec Ideal S512x5120 .bf16) (r : Fin 512) : Fin 5120 → EReal := fun k => x (ix2 r k)

/-- A row of its chunk is the row. -/
theorem chunk_row (x : Vec Ideal S512x5120 .bf16) (r : Fin 512) :
    (fun k : Fin 5120 => chunk x (rowChunk r) (ix2 (rowIn r) k)) = row x r := by
  funext k
  unfold chunk row
  refine congrArg x (congrArg (fun q => ix2 q k) (Fin.ext ?_))
  show 32 * (r.val / 32) + r.val % 32 = r.val
  omega

/-- The exponent of a row in range, as a word and as a number. -/
theorem row_exponent (x : Vec Ideal S512x5120 .bf16) (r : Fin 512) (h : InRange (scaledMax (row x r))) :
    ∃ n : ℤ, -126 ≤ n ∧ n ≤ 126 ∧ exponent (scaledMax (row x r)) = ((n : ℝ) : EReal)
      ∧ k0_pay5 (chunk x (rowChunk r)) (ix2 (rowIn r) 0) = BitVec.ofInt 32 n := by
  obtain ⟨n, h0, h1, h2, h3⟩ := exists_exponent _ h
  refine ⟨n, h0, h1, h2, ?_⟩
  rw [pay5_apply, chunk_row, h3]

theorem codes_apply (x : Vec Ideal S512x5120 .bf16) (r : Fin 512) (k : Fin 5120) (h : InRange (scaledMax (row x r))) :
    codes x (ix2 r k) = code (row x r) k := by
  obtain ⟨n, h0, h1, h2, h3⟩ := row_exponent x r h
  show k0_pay6 (chunk x (rowChunk r)) (ix2 (rowIn r) k) = _
  rw [pay6_apply, h3, pow_of_neg_word n h0 h1, code, h2, Ideal.ofBits_zero_f32]
  exact congrArg (fun q => min _ (max _ (q * _))) (congrFun (chunk_row x r) k)

theorem scales_apply (x : Vec Ideal S512x5120 .bf16) (r : Fin 512) (h : InRange (scaledMax (row x r))) :
    scales x (ix2 r 0) = scale (row x r) := by
  obtain ⟨n, h0, h1, h2, h3⟩ := row_exponent x r h
  show k0_pay7 (F := Ideal) (k0_pay5 (chunk x (rowChunk r))) (ix2 (rowIn r) 0) = _
  rw [pay7_apply, h3, pow_of_word n h0 h1, scale, h2]

theorem rowFactors_apply (x : Vec Ideal S512x5120 .bf16) (r : Fin 512) (k : Fin 128) (h : InRange (scaledMax (row x r))) :
    rowFactors x (ix2 r k) = scale (row x r) * Ideal.ofBits .f32 0x4003E74F#32 := by
  obtain ⟨n, h0, h1, h2, h3⟩ := row_exponent x r h
  show k0_pay8 (F := Ideal) (k0_pay5 (chunk x (rowChunk r))) (ix2 (rowIn r) k) = _
  rw [pay8_apply, h3, pow_of_word n h0 h1, scale, h2]

/-- An element of the product of codes and 256 columns. -/
theorem accPart_apply (xc : Vec Ideal S512x5120 .fp8e4m3) (w : Vec Ideal S5120x1280 .fp8e4m3) (j : Fin 5) (r : Fin 512) (c : Fin 256)
    (d : Fin 1280) (hd : d.val = 256 * j.val + c.val) :
    accPart xc w j (ix2 r c) = ∑ k : Fin 5120, xc (ix2 r k) * w (ix2 k d) := by
  unfold accPart weightPart
  pointwise
  refine Finset.sum_congr rfl fun k _ => congrArg (fun q => xc (ix2 r k) * w (ix2 k q)) (Fin.ext ?_)
  exact hd.symm

/-- An element of the block of logits. -/
theorem logitsBlock_apply (x : Vec Ideal S512x5120 .bf16) (w : Vec Ideal S5120x1280 .fp8e4m3) (ws : Vec Ideal S1x1280 .f32)
    (r : Fin 512) (d : Fin 1280) (h : InRange (scaledMax (row x r))) :
    logitsBlock (codes x) w (rowFactors x) ws (ix2 r d) = logit (row x r) (fun k => w (ix2 k d)) (ws (ix2 0 d)) := by
  show accPart (codes x) w ⟨d.val / 256, _⟩ (ix2 r ⟨d.val % 256, _⟩) * rowFactors x (ix2 r ⟨d.val % 128, _⟩) * ws (ix2 0 d) = _
  rw [accPart_apply _ _ _ _ _ d (by show d.val = 256 * (d.val / 256) + d.val % 256; omega), rowFactors_apply x r _ h, logit]
  rw [Finset.sum_congr rfl fun k _ => congrArg (· * w (ix2 k d)) (codes_apply x r k h)]
  rw [← mul_assoc, mul_right_comm]

end Cert.HeadIdeal.Gen

end
-- ==== Proof.HeadValue.lean ====
/- What the kernel's three named results hold after a run, over the extended reals: the logits, the codes and the scales
   that `RowSpec` gives of the arguments, when every row's scaled maximum is in range. -/
module

public import proofs.«01_k».proof.Proof.HeadRun
public import proofs.«01_k».proof.Proof.KernelRows

@[expose] public section

noncomputable section

namespace Cert.HeadIdeal.Gen

open Idealize.ShloMosaic Idealize.ShloMosaic.TcCoe Idealize.SL.Sem
open Cert.Exponent
open Cert.Spec (scaledMax scale code logit argRow)
open Idealize.ShloMosaic.Pipeline (Dat)

variable (m : (ℓ : Loc nD τ sig) → Buf (Elt Ideal) ℓ) (ρ : Dev nD → PrngReg)

/-- Every row of the input has a scaled maximum in range. -/
def RowsInRange (c : Dev nD) : Prop := ∀ r, InRange (scaledMax (argRow (m ((c : Thread nD τ).loc main_arg0)) r))

theorem row_rowsIn (c : Dev nD) (r : Fin 512) : row (rowsIn m c) r = argRow (m ((c : Thread nD τ).loc main_arg0)) r := by
  funext k
  unfold row rowsIn argRow
  show V m c main_v0 (ix2 r k) = _
  entry_read
  pointwise

theorem index0_2 : ∀ t : Fin cfg0.N, win0_2.index t = ![0, (grid0.coords t 0).val] := (by decide +kernel : ∀ t : Fin grid0.N, _)
theorem index0_3 : ∀ t : Fin cfg0.N, win0_3.index t = ![0, (grid0.coords t 0).val] := (by decide +kernel : ∀ t : Fin grid0.N, _)
theorem index0_5 : ∀ t : Fin cfg0.N, win0_5.index t = ![0, (grid0.coords t 0).val] := (by decide +kernel : ∀ t : Fin grid0.N, _)

/-- The column of all the weights that column `d` of point `t`'s block is. -/
def column (t : Fin cfg0.N) (d : Fin 1280) : Fin 32000 :=
  ⟨1280 * (grid0.coords t 0).val + d.val, by
    have h : (grid0.coords t 0).val < 25 := (grid0.coords t 0).isLt
    omega⟩

theorem weight_block (c : Dev nD) (t : Fin cfg0.N) (k : Fin 5120) (d : Fin 1280) :
    iblk m c 2 t (ix2 k d) = m ((c : Thread nD τ).loc main_arg1) (ix2 k (column t d)) := by
  blk_simp [iblk]
  rw [show V m c main_arg1 = m ((c : Thread nD τ).loc main_arg1) from V_main_arg1 m c]
  refine congrArg (m ((c : Thread nD τ).loc main_arg1)) ?_
  blk_ext [index0_2, column]

theorem scale_block (c : Dev nD) (t : Fin cfg0.N) (d : Fin 1280) :
    iblk m c 3 t (ix2 0 d) = m ((c : Thread nD τ).loc main_arg2) (ix1 (column t d)) := by
  blk_simp [iblk]
  have e : (win0_3.blk t).view.emb (ix2 0 d) = (ix2 0 (column t d) : S1x32000.Idx) := by
    blk_ext [index0_3, column]
  refine (congrArg (V m c main_v2) e).trans ?_
  entry_read
  pointwise

/-- The array of logits. -/
theorem array_logits (c : Dev nD) (h : RowsInRange m c) :
    (dats m 0 c).arrAt 5 cfg0.N
      = Cert.Spec.logits (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  obtain ⟨r, d, rfl⟩ : ∃ (r : Fin 512) (d : Fin 1280), y = ix2 r d := ⟨y 0, y 1, ValueIdx.eq_ix2 y⟩
  unfold logitsAt
  refine (logitsBlock_apply _ _ _ r d (by rw [row_rowsIn]; exact h r)).trans ?_
  have e5 : (win0_5.blk t).view.emb (ix2 r d) = (ix2 r (column t d) : S512x32000.Idx) := by
    blk_ext [index0_5, column]
  refine Eq.trans ?_ (congrArg _ e5.symm)
  show _ = logit (argRow (m ((c : Thread nD τ).loc main_arg0)) r) (fun k => m ((c : Thread nD τ).loc main_arg1) (ix2 k (column t d)))
    (m ((c : Thread nD τ).loc main_arg2) (ix1 (column t d)))
  rw [row_rowsIn, scale_block, show (fun k => iblk m c 2 t (ix2 k d)) = fun k => m ((c : Thread nD τ).loc main_arg1) (ix2 k (column t d)) from
    funext fun k => weight_block m c t k d]

/-- The array of codes. -/
theorem array_codes (c : Dev nD) (h : RowsInRange m c) :
    (dats m 0 c).arrAt 6 cfg0.N = Cert.Spec.codes (m ((c : Thread nD τ).loc main_arg0)) := by
  refine (dats m 0 c).arrAt_eq_of_after_last 6 ⟨24, lt_of_lt_of_eq (by decide : 24 < 25) (show 25 = cfg0.N from N_0.symm)⟩ (by decide +kernel) _ fun y => ?_
  refine (show _ = HeadIdeal.Gen.codes (rowsIn m c) y from rfl).trans ?_
  obtain ⟨r, k, rfl⟩ : ∃ (r : Fin 512) (k : Fin 5120), y = ix2 r k := ⟨y 0, y 1, (ValueIdx.eq_ix2 y)⟩
  refine (codes_apply _ r k (by rw [row_rowsIn]; exact h r)).trans ?_
  rw [row_rowsIn]
  rfl

/-- The array of scales. -/
theorem array_scales (c : Dev nD) (h : RowsInRange m c) :
    (dats m 0 c).arrAt 7 cfg0.N = Cert.Spec.scales (m ((c : Thread nD τ).loc main_arg0)) := by
  refine (dats m 0 c).arrAt_eq_of_after_last 7 ⟨24, lt_of_lt_of_eq (by decide : 24 < 25) (show 25 = cfg0.N from N_0.symm)⟩ (by decide +kernel) _ fun y => ?_
  refine (show _ = HeadIdeal.Gen.scales (rowsIn m c) y from rfl).trans ?_
  obtain ⟨r, k, rfl⟩ : ∃ (r : Fin 512) (k : Fin 1), y = ix2 r k := ⟨y 0, y 1, (ValueIdx.eq_ix2 y)⟩
  rw [show k = 0 from Subsingleton.elim _ _]
  refine (scales_apply _ r (by rw [row_rowsIn]; exact h r)).trans ?_
  rw [row_rowsIn]
  rfl

/-- Every run ends with the three results named and the arguments as they were. -/
theorem run_values (h : ∀ c, RowsInRange m c) :
    θ_run defs (onTc (τ := τ) (main (F := Ideal))) ⟨m, fun _ => 0, ρ⟩ (fun r => ∀ c : Dev nD,
      r.2.mem ((c.tc : Thread nD τ).loc main_v3_0)
          = Cert.Spec.logits (m ((c : Thread nD τ).loc main_arg0)) (m ((c : Thread nD τ).loc main_arg1)) (m ((c : Thread nD τ).loc main_arg2))
      ∧ r.2.mem ((c.tc : Thread nD τ).loc main_v3_1) = Cert.Spec.codes (m ((c : Thread nD τ).loc main_arg0))
      ∧ r.2.mem ((c.tc : Thread nD τ).loc main_v3_2) = Cert.Spec.scales (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r hp c =>
    ⟨(((dats m 0 c).toRForget_arrAt_iff (w := 5) (fgt := forgets0) rfl cfg0.N _).mp ((hp c).1 5)).trans (array_logits m c (h c)),
      (((dats m 0 c).toRForget_arrAt_iff (w := 6) (fgt := forgets0) rfl cfg0.N _).mp ((hp c).1 6)).trans (array_codes m c (h c)),
      (((dats m 0 c).toRForget_arrAt_iff (w := 7) (fgt := forgets0) rfl cfg0.N _).mp ((hp c).1 7)).trans (array_scales m c (h c)),
      unchanged_of_post m hp c⟩) (run_main m ρ)

end Cert.HeadIdeal.Gen

end
-- ==== Proof.ReferenceValue.lean ====
/- What the reference's three results hold after a run, over the extended reals: the logits, the codes and the scales that
   `RowSpec` gives of the arguments. -/
module

public import proofs.«01_k».proof.Proof.Gen.ReferenceIdeal.Frame
public import proofs.«01_k».proof.Proof.RowSpec
public import Idealize.ShloMosaic.Lib.Pointwise
public import Idealize.ShloMosaic.Lib.Pipeline.ValueKit

@[expose] public section

noncomputable section

namespace Cert.ReferenceIdeal.Gen

open Idealize.ShloMosaic Idealize.ShloMosaic.TcCoe Idealize.SL.Sem
open Cert.Exponent
open Cert.Spec (scaledMax scale code logit argRow)

/-! ## The payloads -/

/-- A row of the input block. -/
def row (x : Vec Ideal S512x5120 .bf16) (r : Fin 512) : Fin 5120 → EReal := fun k => x (ix2 r k)

/-- A greatest element along the second axis. -/
theorem max_apply {n k : Nat} (v : FVec Ideal ⟨2, ![n, k]⟩ .f32) (h : (⟨2, ![n, k]⟩ : Shape).Reduces [1] ⟨1, ![n]⟩) (hφ) (r : Fin n) :
    multiReduction .maximumf [1] ⟨1, ![n]⟩ v 0xFF800000#32 h hφ rfl (ix1 r)
      = (Finset.univ : Finset (Fin k)).fold max (Ideal.ofBits .f32 0xFF800000#32) fun i => v (ix2 r i) := by
  pointwise

theorem cast_apply (v : FVec Ideal S512 .f32) (r : Fin 512) : shapeCast S512x1 v shapeCasts_S512_S512x1 (ix2 r 0) = v (ix1 r) := by
  pointwise

theorem pay1_eq (x : Vec Ideal S512x5120 .bf16) : k0_pay1 x = x := by
  show shapeCast S512x5120 x shapeCasts_S512x5120_S512x5120 = x
  exact shapeCast_self ..

/-- The exponent of one number, as the body computes it. -/
def exponentOf (a : Ideal .f32) : Ideal .f32 :=
  Scalar.select (FloatOps.cmpf .oeq a (Scalar.ofBits .f32 0x00000000#32)) (Scalar.ofBits .f32 0x00000000#32)
    (FloatOps.addf (FloatOps.floor (FloatOps.divf (FloatOps.log a) (FloatOps.log (Scalar.ofBits .f32 0x40000000#32)))) (Scalar.ofBits .f32 0x3F800000#32))

theorem test_zero (a : Ideal .f32) : FloatOps.cmpf .oeq a (Scalar.ofBits .f32 0x00000000#32 : Ideal .f32) = BitVec.ofBool (decide (a = (0 : EReal))) := by
  rw [show (Scalar.ofBits .f32 0x00000000#32 : Ideal .f32) = (0 : EReal) from Ideal.ofBits_zero_f32, Ideal.cmpf_def]
  by_cases h : a = (0 : EReal)
  · rw [decide_eq_true h]; subst h; simp [Ideal.cmp]
  · rw [decide_eq_false h]; simp [Ideal.cmp, h]

theorem exponentOf_eq (a : EReal) : exponentOf a = exponent a := by
  unfold exponentOf exponent
  rw [test_zero]
  by_cases h : a = 0
  · rw [decide_eq_true h, if_pos h]; rfl
  · rw [decide_eq_false h, if_neg h]; rfl

theorem exponentOf_scaled (a : EReal) : exponentOf (FloatOps.mulf (a : Ideal .f32) (Scalar.ofBits .f32 0x3B124925#32)) = exponent (a * Ideal.ofBits .f32 0x3B124925#32) :=
  exponentOf_eq _

/-- What the body does with the greatest magnitudes of the rows. -/
def exponents (v5 : FVec Ideal S512x1 .f32) : FVec Ideal S512x1 .f32 :=
  select (cmpf .oeq (mulf v5 (broadcast S512x1 (Scalar.ofBits (F := Ideal) .f32 0x3B124925#32))) (broadcast S512x1 (Scalar.ofBits (F := Ideal) .f32 0x00000000#32)))
    (broadcast S512x1 (Scalar.ofBits (F := Ideal) .f32 0x00000000#32))
    (addf (floor (divf (log (mulf v5 (broadcast S512x1 (Scalar.ofBits (F := Ideal) .f32 0x3B124925#32)))) (log (broadcast S512x1 (Scalar.ofBits (F := Ideal) .f32 0x40000000#32)))))
      (broadcast S512x1 (Scalar.ofBits (F := Ideal) .f32 0x3F800000#32)))

theorem exponents_apply (v : FVec Ideal S512x1 .f32) (j : S512x1.Idx) :
    exponents v j = exponentOf (FloatOps.mulf (v j) (Scalar.ofBits .f32 0x3B124925#32)) := rfl

/-- The greatest magnitudes of the rows. -/
def greatest (x : Vec Ideal S512x5120 .bf16) : FVec Ideal S512x1 .f32 :=
  shapeCast S512x1 (multiReduction .maximumf [1] S512 (absf (k0_pay1 x)) 0xFF800000#32 reduces_S512x5120_S512 (.inl rfl) rfl) shapeCasts_S512_S512x1

theorem pay2_eq (x : Vec Ideal S512x5120 .bf16) : k0_pay2 x = exponents (greatest x) := rfl

theorem greatest_apply (x : Vec Ideal S512x5120 .bf16) (r : Fin 512) : greatest x (ix2 r 0)
      = (Finset.univ : Finset (Fin 5120)).fold max (Ideal.ofBits .f32 0xFF800000#32) fun k => max (row x r k) (-row x r k) := by
  unfold greatest
  rw [cast_apply, pay1_eq, max_apply]
  exact Finset.fold_congr fun k _ => rfl

theorem pay2_apply (x : Vec Ideal S512x5120 .bf16) (r : Fin 512) : k0_pay2 x (ix2 r 0) = exponent (scaledMax (row x r)) := by
  rw [pay2_eq, exponents_apply, greatest_apply, exponentOf_scaled, scaledMax]

/-- One code from an exponent. -/
def codeOf (a b : Ideal .f32) : Ideal .f32 :=
  FloatOps.minimumf (Scalar.ofBits .f32 0x43E00000#32) (FloatOps.maximumf (Scalar.ofBits .f32 0xC3E00000#32)
    (FloatOps.mulf a (FloatOps.exp2 (FloatOps.subf (Scalar.ofBits .f32 0x00000000#32) b))))

theorem codeOf_eq (f : Fin 5120 → EReal) (k : Fin 5120) : codeOf (f k) (exponent (scaledMax f)) = code f k := by
  unfold code
  generalize exponent (scaledMax f) = b
  generalize f k = a
  rfl

/-- The codes of all rows, from the exponents. -/
def codesOf (y : FVec Ideal S512x5120 .f32) (v : FVec Ideal S512x1 .f32) : FVec Ideal S512x5120 .f32 :=
  minimumf (broadcast S512x5120 (Scalar.ofBits (F := Ideal) .f32 0x43E00000#32)) (maximumf (broadcast S512x5120 (Scalar.ofBits (F := Ideal) .f32 0xC3E00000#32))
    (mulf y (broadcastTo S512x5120 (exp2 (subf (broadcast S512x1 (Scalar.ofBits (F := Ideal) .f32 0x00000000#32)) v)) broadcasts_S512x1_S512x5120)))

theorem bcast_apply (v : FVec Ideal S512x1 .f32) (r : Fin 512) (k : Fin 5120) :
    broadcastTo S512x5120 v broadcasts_S512x1_S512x5120 (ix2 r k) = v (ix2 r 0) := by
  pointwise

theorem codesOf_apply (y : FVec Ideal S512x5120 .f32) (v : FVec Ideal S512x1 .f32) (r : Fin 512) (k : Fin 5120) :
    codesOf y v (ix2 r k) = codeOf (y (ix2 r k)) (v (ix2 r 0)) := by
  show FloatOps.minimumf (Scalar.ofBits .f32 0x43E00000#32) (FloatOps.maximumf (Scalar.ofBits .f32 0xC3E00000#32)
    (FloatOps.mulf (y (ix2 r k)) (broadcastTo S512x5120 (exp2 (subf (broadcast S512x1 (Scalar.ofBits (F := Ideal) .f32 0x00000000#32)) v)) broadcasts_S512x1_S512x5120 (ix2 r k)))) = _
  rw [bcast_apply]
  rfl

theorem pay3_eq (x : Vec Ideal S512x5120 .bf16) : k0_pay3 x = codesOf (k0_pay1 x) (k0_pay2 x) := rfl

theorem pay3_apply (x : Vec Ideal S512x5120 .bf16) (r : Fin 512) (k : Fin 5120) : k0_pay3 x (ix2 r k) = code (row x r) k := by
  rw [pay3_eq, codesOf_apply, pay2_apply, pay1_eq, ← codeOf_eq, row]

theorem exp2_apply (v : FVec Ideal S512x1 .f32) (j : S512x1.Idx) : exp2 v j = Ideal.exp2 (v j) := rfl

theorem pay4_eq (x : Vec Ideal S512x5120 .bf16) : k0_pay4 x = exp2 (k0_pay2 x) := rfl

theorem pay4_apply (x : Vec Ideal S512x5120 .bf16) (r : Fin 512) : k0_pay4 x (ix2 r 0) = scale (row x r) := by
  rw [pay4_eq, exp2_apply, pay2_apply, scale]

/-- The products of the codes with the weights. -/
def products (y : FVec Ideal S512x5120 .fp8e4m3) (w : FVec Ideal S5120x32000 .fp8e4m3) : FVec Ideal S512x32000 .f32 :=
  matmul dot_S512x5120_S5120x32000_S512x32000_1_0_0_1_n_n none y w (constant S512x32000 .f32 0x00000000#32)

theorem products_apply (y : FVec Ideal S512x5120 .fp8e4m3) (w : FVec Ideal S5120x32000 .fp8e4m3) (r : Fin 512) (d : Fin 32000) :
    products y w (ix2 r d) = ∑ k : Fin 5120, (y (ix2 r k) : EReal) * w (ix2 k d) := by
  unfold products
  pointwise

/-- The products scaled by rows, by columns and by the constant. -/
def scaled (p : FVec Ideal S512x32000 .f32) (v : FVec Ideal S512x1 .f32) (s : FVec Ideal S1x32000 .f32) : FVec Ideal S512x32000 .f32 :=
  mulf (mulf (mulf p (broadcastTo S512x32000 v broadcasts_S512x1_S512x32000))
    (broadcastTo S512x32000 (shapeCast S1x32000 s shapeCasts_S1x32000_S1x32000) broadcasts_S1x32000_S512x32000))
    (broadcast S512x32000 (Scalar.ofBits (F := Ideal) .f32 0x4003E74F#32))

theorem scaled_apply (p : FVec Ideal S512x32000 .f32) (v : FVec Ideal S512x1 .f32) (s : FVec Ideal S1x32000 .f32) (r : Fin 512) (d : Fin 32000) :
    scaled p v s (ix2 r d) = (p (ix2 r d) : EReal) * v (ix2 r 0) * s (ix2 0 d) * Ideal.ofBits .f32 0x4003E74F#32 := by
  unfold scaled
  rw [shapeCast_self]
  pointwise

theorem pay5_eq (x : Vec Ideal S512x5120 .bf16) (w : Vec Ideal S5120x32000 .fp8e4m3) (s : Vec Ideal S1x32000 .f32) :
    k0_pay5 x w s = scaled (products (k0_pay3 x) w) (k0_pay4 x) s := rfl

theorem pay5_apply (x : Vec Ideal S512x5120 .bf16) (w : Vec Ideal S5120x32000 .fp8e4m3) (s : Vec Ideal S1x32000 .f32)
    (r : Fin 512) (d : Fin 32000) :
    k0_pay5 x w s (ix2 r d) = logit (row x r) (fun k => w (ix2 k d)) (s (ix2 0 d)) := by
  have h : (∑ k : Fin 5120, (k0_pay3 x (ix2 r k) : EReal) * w (ix2 k d)) = ∑ k : Fin 5120, code (row x r) k * w (ix2 k d) :=
    Finset.sum_congr rfl fun k _ => congrArg (fun e : EReal => e * w (ix2 k d)) (pay3_apply x r k)
  rw [pay5_eq, scaled_apply, products_apply, pay4_apply, h, logit]

/-! ## The arrays after a run -/

variable (m : (ℓ : Loc nD τ sig) → Buf (Elt Ideal) ℓ) (ρ : Dev nD → PrngReg)

theorem index0_0 : ∀ t : Fin cfg0.N, win0_0.index t = ![0, 0] := (by decide +kernel : ∀ t : Fin grid0.N, _)

theorem index0_1 : ∀ t : Fin cfg0.N, win0_1.index t = ![0, 0] := (by decide +kernel : ∀ t : Fin grid0.N, _)

theorem index0_2 : ∀ t : Fin cfg0.N, win0_2.index t = ![0, 0] := (by decide +kernel : ∀ t : Fin grid0.N, _)

theorem index0_3 : ∀ t : Fin cfg0.N, win0_3.index t = ![0, 0] := (by decide +kernel : ∀ t : Fin grid0.N, _)

theorem index0_4 : ∀ t : Fin cfg0.N, win0_4.index t = ![0, 0] := (by decide +kernel : ∀ t : Fin grid0.N, _)

theorem index0_5 : ∀ t : Fin cfg0.N, win0_5.index t = ![0, 0] := (by decide +kernel : ∀ t : Fin grid0.N, _)

/-- The input block is the argument, its middle axis dropped. -/
theorem row_block (c : Dev nD) (t : Fin cfg0.N) (r : Fin 512) :
    row (iblk m c 0 t) r = argRow (m ((c : Thread nD τ).loc main_arg0)) r := by
  obtain rfl := fin_N0 t
  funext k
  unfold row argRow
  blk_simp [iblk]
  have e : (win0_0.blk t0_0).view.emb (ix2 r k) = (ix2 r k : S512x5120.Idx) := by
    blk_ext [index0_0]
  refine (congrArg (V m c main_v0) e).trans ?_
  entry_read
  pointwise

/-- The block of weights is the argument. -/
theorem weight_block (c : Dev nD) (t : Fin cfg0.N) (k : Fin 5120) (d : Fin 32000) :
    iblk m c 1 t (ix2 k d) = m ((c : Thread nD τ).loc main_arg1) (ix2 k d) := by
  obtain rfl := fin_N0 t
  blk_simp [iblk]
  rw [show V m c main_arg1 = m ((c : Thread nD τ).loc main_arg1) from V_main_arg1 m c]
  refine congrArg (m ((c : Thread nD τ).loc main_arg1)) ?_
  blk_ext [index0_1]

/-- The block of column scales is the argument, as one row. -/
theorem scale_block (c : Dev nD) (t : Fin cfg0.N) (d : Fin 32000) :
    iblk m c 2 t (ix2 0 d) = m ((c : Thread nD τ).loc main_arg2) (ix1 d) := by
  obtain rfl := fin_N0 t
  blk_simp [iblk]
  have e : (win0_2.blk t0_0).view.emb (ix2 0 d) = (ix2 0 d : S1x32000.Idx) := by
    blk_ext [index0_2]
  refine (congrArg (V m c main_v1) e).trans ?_
  entry_read
  pointwise

/-- The array of logits. -/
theorem array_logits (c : Dev nD) :
    (dats m 0 c).arrAt 3 cfg0.N
      = Cert.Spec.logits (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨r, d, rfl⟩ : ∃ (r : Fin 512) (d : Fin 32000), y = ix2 r d := ⟨y 0, y 1, ValueIdx.eq_ix2 y⟩
  unfold out0_3 r0_0 r0_1 r0_2 r0_3
  rw [View.canon_cons_unit_lit _ _ _ (by decide), View.ld_unit_lit _ _ (by decide), View.ld_unit_lit _ _ (by decide), View.ld_unit_lit _ _ (by decide)]
  refine (pay5_apply _ _ _ r d).trans ?_
  have e : (win0_3.blk t).view.emb (ix2 r d) = (ix2 r d : S512x32000.Idx) := by
    obtain rfl := fin_N0 t
    blk_ext [index0_3]
  refine Eq.trans ?_ (congrArg _ e.symm)
  show _ = logit (argRow (m ((c : Thread nD τ).loc main_arg0)) r) (fun k => m ((c : Thread nD τ).loc main_arg1) (ix2 k d))
    (m ((c : Thread nD τ).loc main_arg2) (ix1 d))
  rw [row_block, scale_block, show (fun k => iblk m c 1 t (ix2 k d)) = fun k => m ((c : Thread nD τ).loc main_arg1) (ix2 k d) from
    funext fun k => weight_block m c t k d]

/-- The array of codes. -/
theorem array_codes (c : Dev nD) :
    (dats m 0 c).arrAt 4 cfg0.N = Cert.Spec.codes (m ((c : Thread nD τ).loc main_arg0)) := by
  refine (dats m 0 c).arrAt_eq_of_covers 4 _ (by decide +kernel) fun t hf y => ?_
  blk_simp
  rw [after0_4]
  obtain ⟨r, k, rfl⟩ : ∃ (r : Fin 512) (k : Fin 5120), y = ix2 r k := ⟨y 0, y 1, ValueIdx.eq_ix2 y⟩
  unfold out0_4 r0_0
  rw [View.canon_cons_unit_lit _ _ _ (by decide), View.ld_unit_lit _ _ (by decide)]
  refine (pay3_apply _ r k).trans ?_
  have e : (win0_4.blk t).view.emb (ix2 r k) = (ix2 r k : S512x5120.Idx) := by
    obtain rfl := fin_N0 t
    blk_ext [index0_4]
  refine Eq.trans ?_ (congrArg _ e.symm)
  rw [row_block]
  rfl

/-- The array of scales. -/
theorem array_scales (c : Dev nD) :
    (dats m 0 c).arrAt 5 cfg0.N = Cert.Spec.scales (m ((c : Thread nD τ).loc main_arg0)) := by
  refine (dats m 0 c).arrAt_eq_of_covers 5 _ (by decide +kernel) fun t hf y => ?_
  blk_simp
  rw [after0_5]
  obtain ⟨r, k, rfl⟩ : ∃ (r : Fin 512) (k : Fin 1), y = ix2 r k := ⟨y 0, y 1, ValueIdx.eq_ix2 y⟩
  rw [show k = 0 from Subsingleton.elim _ _]
  unfold out0_5 r0_0 r0_4
  rw [View.canon_cons_unit_lit _ _ _ (by decide), View.ld_unit_lit _ _ (by decide)]
  refine (pay4_apply _ r).trans ?_
  have e : (win0_5.blk t).view.emb (ix2 r 0) = (ix2 r 0 : S512x1.Idx) := by
    obtain rfl := fin_N0 t
    blk_ext [index0_5]
  refine Eq.trans ?_ (congrArg _ e.symm)
  rw [row_block]
  rfl

/-- Every run ends with the three results named and the arguments as they were. -/
theorem run_values :
    θ_run defs (onTc (τ := τ) (main (F := Ideal))) ⟨m, fun _ => 0, ρ⟩ (fun r => ∀ c : Dev nD,
      r.2.mem ((c.tc : Thread nD τ).loc main_v2_0)
          = Cert.Spec.logits (m ((c : Thread nD τ).loc main_arg0)) (m ((c : Thread nD τ).loc main_arg1)) (m ((c : Thread nD τ).loc main_arg2))
      ∧ r.2.mem ((c.tc : Thread nD τ).loc main_v2_1) = Cert.Spec.codes (m ((c : Thread nD τ).loc main_arg0))
      ∧ r.2.mem ((c.tc : Thread nD τ).loc main_v2_2) = Cert.Spec.scales (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).1 3).trans (array_logits m c), ((h c).1 4).trans (array_codes m c), ((h c).1 5).trans (array_scales m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.ReferenceIdeal.Gen

end
-- ==== Proof.Range.lean ====
/- The stated precondition, read: every row's scaled maximum is in range. -/
module

public import proofs.«01_k».proof.Pre_rows_in_range
public import proofs.«01_k».proof.Proof.RowSpec
public import Idealize.ShloMosaic.Lib.Pointwise

@[expose] public section

noncomputable section

namespace Cert.Pre_rows_in_range

open Idealize.ShloMosaic
open Cert.Exponent
open Cert.Spec (scaledMax argRow)

theorem facts : Facts where
  bitsLt_bf16_f32 := by decide
  reducesTo_S512x1x5120_S512x1_d2 := by decide
  h_S_ := by decide
  bcast_S_S512x1 := by decide

/-- A greatest magnitude along the last axis. -/
theorem max_apply {n k : Nat} (x : FVec Ideal ⟨3, ![n, 1, k]⟩ .f32) (h : (⟨3, ![n, 1, k]⟩ : Shape).ReducesTo [2] ⟨2, ![n, 1]⟩)
    (hu : 0 < S_.numel) (r : Fin n) :
    Host.reduce FloatOps.maximumf (Host.absf x) (constant (F := Ideal) S_ .f32 0xFF800000#32) h hu (ix2 r 0)
      = (Finset.univ : Finset (Fin k)).fold max (Ideal.ofBits .f32 0xFF800000#32) fun i => max (x (ix3 r 0 i)) (-(x (ix3 r 0 i))) :=
  (Host.reduce_eq_fold ..).trans (h.fold_fiber_r3_a2 _ _ _ _)

/-- Three truth values combined to one. -/
theorem of_bits {p q r : Prop} {_ : Decidable p} {_ : Decidable q} {_ : Decidable r}
    (h : IntOp.ori (BitVec.ofBool (decide p)) (IntOp.andi (BitVec.ofBool (decide q)) (BitVec.ofBool (decide r))) = 1#1) : p ∨ (q ∧ r) := by
  by_cases hp : p
  · exact Or.inl hp
  · refine Or.inr ?_
    by_cases hq : q <;> by_cases hr : r
    · exact ⟨hq, hr⟩
    all_goals
      simp only [hp, hq, hr, decide_true, decide_false] at h
      exact absurd h (by decide)

/-- The test of one number. -/
def test (a : Ideal .f32) : BitVec 1 :=
  IntOp.ori (FloatOps.cmpf .oeq a (FloatOps.ofBits .f32 0x00000000#32))
    (IntOp.andi (FloatOps.cmpf .oge a (FloatOps.ofBits .f32 0x00400000#32)) (FloatOps.cmpf .olt a (FloatOps.ofBits .f32 0x7E800000#32)))

theorem inRange_of_test (a : EReal) (h : test (FloatOps.mulf (a : Ideal .f32) (FloatOps.ofBits .f32 0x3B124925#32)) = 1#1) :
    InRange (a * Ideal.ofBits .f32 0x3B124925#32) := by
  rw [Ideal.mulf_def] at h
  unfold InRange
  rw [← Ideal.ofBits_zero_f32]
  exact of_bits h

variable [Facts]
open Facts

/-- The test of every row, from its greatest magnitude. -/
def tests (v : FVec Ideal S512x1 .f32) : IVec S512x1 1 :=
  ori (cmpf .oeq (mulf v (broadcastInDim S512x1 ![] bcast_S_S512x1 (constant (F := Ideal) S_ .f32 0x3B124925#32))) (broadcastInDim S512x1 ![] bcast_S_S512x1 (constant (F := Ideal) S_ .f32 0x00000000#32)))
    (andi (cmpf .oge (mulf v (broadcastInDim S512x1 ![] bcast_S_S512x1 (constant (F := Ideal) S_ .f32 0x3B124925#32))) (broadcastInDim S512x1 ![] bcast_S_S512x1 (constant (F := Ideal) S_ .f32 0x00400000#32)))
      (cmpf .olt (mulf v (broadcastInDim S512x1 ![] bcast_S_S512x1 (constant (F := Ideal) S_ .f32 0x3B124925#32))) (broadcastInDim S512x1 ![] bcast_S_S512x1 (constant (F := Ideal) S_ .f32 0x7E800000#32))))

/-- The greatest magnitudes of the rows. -/
def greatest (x : FVec Ideal S512x1x5120 .bf16) : FVec Ideal S512x1 .f32 :=
  Host.reduce FloatOps.maximumf (Host.absf (F := Ideal) (extf .f32 x bitsLt_bf16_f32)) (constant (F := Ideal) S_ .f32 0xFF800000#32)
    reducesTo_S512x1x5120_S512x1_d2 h_S_

theorem tests_apply (v : FVec Ideal S512x1 .f32) (j : S512x1.Idx) : tests v j = test (FloatOps.mulf (v j) (FloatOps.ofBits .f32 0x3B124925#32)) := rfl

theorem greatest_apply (x : FVec Ideal S512x1x5120 .bf16) (r : Fin 512) : greatest x (ix2 r 0)
    = (Finset.univ : Finset (Fin 5120)).fold max (Ideal.ofBits .f32 0xFF800000#32) fun k => max (argRow x r k) (-(argRow x r k)) := by
  unfold greatest
  rw [max_apply]
  exact Finset.fold_congr fun k _ => rfl

theorem fn_eq (x : FVec Ideal S512x1x5120 .bf16) (a1 : FVec Ideal S5120x32000 .fp8e4m3) (a2 : FVec Ideal S32000 .f32)
    (a3 : FVec Ideal S512x32000 .fp8e4m3) (a4 : FVec Ideal S512 .f32) : fn x a1 a2 a3 a4 = tests (greatest x) := rfl

theorem fn_apply (x : FVec Ideal S512x1x5120 .bf16) (a1 : FVec Ideal S5120x32000 .fp8e4m3) (a2 : FVec Ideal S32000 .f32)
    (a3 : FVec Ideal S512x32000 .fp8e4m3) (a4 : FVec Ideal S512 .f32) (r : Fin 512) (h : fn x a1 a2 a3 a4 (ix2 r 0) = 1#1) :
    InRange (scaledMax (argRow x r)) := by
  rw [fn_eq, tests_apply, greatest_apply] at h
  exact inRange_of_test _ h

end Cert.Pre_rows_in_range

end
-- ==== Proof.lean ====
/- The proof of the claim: the printed kernel's frame, its ideal reading's frame, the reference's frame, and the agreement of
   the logits, the codes and the scales. -/
module

public import proofs.«01_k».proof.Defs
public import proofs.«01_k».proof.Proof.PrintedRun
public import proofs.«01_k».proof.Proof.HeadValue
public import proofs.«01_k».proof.Proof.ReferenceValue
public import proofs.«01_k».proof.Proof.Range
public import proofs.«01_k».proof.Proof.Gen.Head
public import proofs.«01_k».proof.Proof.Gen.HeadIdeal
public import proofs.«01_k».proof.Proof.Gen.ReferenceIdeal
public import proofs.«01_k».proof.Proof.Gen.ReferenceIdeal.Frame
public import Idealize.ShloMosaic.Adequacy
public import Idealize.ShloMosaic.Init

@[expose] public section

noncomputable section

namespace Cert.Proof

open Idealize.ShloMosaic Idealize.ShloMosaic.TcCoe Idealize.SL.Sem

/-- Kernel and reference agree on the logits, the codes and the scales. -/
theorem algebraic : Cert.algebraic_HeadIdeal_ReferenceIdeal_pre_rows_in_range (hHeadIdeal := Cert.HeadIdeal.Gen.facts)
    (hReferenceIdeal := Cert.ReferenceIdeal.Gen.facts) (hPre_rows_in_range := Cert.Pre_rows_in_range.facts) := by
  intro m g m' g' hpre hargs
  have h0 := fun c => (hargs c).1
  have h1 := fun c => (hargs c).2.1
  have h2 := fun c => (hargs c).2.2.1
  refine ⟨fun c => Cert.Spec.logits (m ((c.tc : Thread Cert.HeadIdeal.nD Cert.HeadIdeal.τ).loc Cert.HeadIdeal.main_arg0))
      (m ((c.tc : Thread Cert.HeadIdeal.nD Cert.HeadIdeal.τ).loc Cert.HeadIdeal.main_arg1))
      (m ((c.tc : Thread Cert.HeadIdeal.nD Cert.HeadIdeal.τ).loc Cert.HeadIdeal.main_arg2)),
    fun c => Cert.Spec.codes (m ((c.tc : Thread Cert.HeadIdeal.nD Cert.HeadIdeal.τ).loc Cert.HeadIdeal.main_arg0)),
    fun c => Cert.Spec.scales (m ((c.tc : Thread Cert.HeadIdeal.nD Cert.HeadIdeal.τ).loc Cert.HeadIdeal.main_arg0)),
    Cert.HeadIdeal.Gen.run_values m g fun c r => @Cert.Pre_rows_in_range.fn_apply Cert.Pre_rows_in_range.facts _ _ _ _ _ r (congrFun (hpre c) (ValueIdx.ix2 r 0)), ?_⟩
  refine (θ_run Cert.ReferenceIdeal.defs _ _).mono (fun r h c => ?_) (Cert.ReferenceIdeal.Gen.run_values m' g')
  obtain ⟨e0, e1, e2, rest⟩ := h c
  refine ⟨e0.trans ?_, e1.trans ?_, e2.trans ?_, rest⟩
  · rw [h0 c, h1 c, h2 c]
  · rw [h0 c]
  · rw [h0 c]

theorem claim : Cert.Claim := ⟨Cert.Head.Gen.facts, Cert.HeadIdeal.Gen.facts, Cert.ReferenceIdeal.Gen.facts, Cert.Pre_rows_in_range.facts,
  fun m ρ _ => Cert.Head.Gen.frame m ρ, fun m ρ _ => Cert.HeadIdeal.Gen.frame m ρ, fun m ρ _ => Cert.HeadIdeal.Gen.frame m ρ,
  fun m ρ _ => Cert.ReferenceIdeal.Gen.frame m ρ, fun m ρ _ => Cert.ReferenceIdeal.Gen.frame m ρ, trivial, algebraic⟩

end Cert.Proof

end
